-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ExactRoot (m : (ℓ : Loc Cert.ExactRoot.nD Cert.ExactRoot.τ Cert.ExactRoot.sig) → Buf (Elt Bits) ℓ) : Prop :=
  True

def Pre_ExactRootIdeal (m : (ℓ : Loc Cert.ExactRootIdeal.nD Cert.ExactRootIdeal.τ Cert.ExactRootIdeal.sig) → Buf (Elt Ideal) ℓ) : Prop :=
  True

def Pre_ExactRootIdeal_finite [hPre_finite : Cert.Pre_finite.Facts] (m : (ℓ : Loc Cert.ExactRootIdeal.nD Cert.ExactRootIdeal.τ Cert.ExactRootIdeal.sig) → Buf (Elt Ideal) ℓ) : Prop :=
  ∀ c : Dev Cert.ExactRootIdeal.nD,
    (Cert.Pre_finite.fn (F := Ideal) (m ((c.tc : Thread Cert.ExactRootIdeal.nD Cert.ExactRootIdeal.τ).loc Cert.ExactRootIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ExactRoot [hExactRoot : Cert.ExactRoot.Facts] : Prop :=
  ∀ (m : (ℓ : Loc Cert.ExactRoot.nD Cert.ExactRoot.τ Cert.ExactRoot.sig) → Buf (Elt Bits) ℓ) (g : Dev Cert.ExactRoot.nD → PrngReg), Pre_ExactRoot m →
    θ_run (Cert.ExactRoot.defs (F := Bits)) (Cert.ExactRoot.threads (F := Bits)) ⟨m, fun _ => 0, g⟩ (fun r => (∀ c : Dev Cert.ExactRoot.nD,
      r.2.mem ((c.tc : Thread Cert.ExactRoot.nD Cert.ExactRoot.τ).loc Cert.ExactRoot.main_arg0) = m ((c.tc : Thread Cert.ExactRoot.nD Cert.ExactRoot.τ).loc Cert.ExactRoot.main_arg0))
      ∧ r.2.sem = fun _ => 0)

def quiescent_ExactRootIdeal [hExactRootIdeal : Cert.ExactRootIdeal.Facts] : Prop :=
  ∀ (m : (ℓ : Loc Cert.ExactRootIdeal.nD Cert.ExactRootIdeal.τ Cert.ExactRootIdeal.sig) → Buf (Elt Ideal) ℓ) (g : Dev Cert.ExactRootIdeal.nD → PrngReg), Pre_ExactRootIdeal m →
    θ_run (Cert.ExactRootIdeal.defs (F := Ideal)) (Cert.ExactRootIdeal.threads (F := Ideal)) ⟨m, fun _ => 0, g⟩ (fun r => (∀ c : Dev Cert.ExactRootIdeal.nD,
      r.2.mem ((c.tc : Thread Cert.ExactRootIdeal.nD Cert.ExactRootIdeal.τ).loc Cert.ExactRootIdeal.main_arg0) = m ((c.tc : Thread Cert.ExactRootIdeal.nD Cert.ExactRootIdeal.τ).loc Cert.ExactRootIdeal.main_arg0))
      ∧ r.2.sem = fun _ => 0)

def quiescent_ExactRootIdeal_pre_finite [hExactRootIdeal : Cert.ExactRootIdeal.Facts] [hPre_finite : Cert.Pre_finite.Facts] : Prop :=
  ∀ (m : (ℓ : Loc Cert.ExactRootIdeal.nD Cert.ExactRootIdeal.τ Cert.ExactRootIdeal.sig) → Buf (Elt Ideal) ℓ) (g : Dev Cert.ExactRootIdeal.nD → PrngReg), Pre_ExactRootIdeal_finite m →
    θ_run (Cert.ExactRootIdeal.defs (F := Ideal)) (Cert.ExactRootIdeal.threads (F := Ideal)) ⟨m, fun _ => 0, g⟩ (fun r => (∀ c : Dev Cert.ExactRootIdeal.nD,
      r.2.mem ((c.tc : Thread Cert.ExactRootIdeal.nD Cert.ExactRootIdeal.τ).loc Cert.ExactRootIdeal.main_arg0) = m ((c.tc : Thread Cert.ExactRootIdeal.nD Cert.ExactRootIdeal.τ).loc Cert.ExactRootIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "fifth" .f32 0x3E4CCCCD#32 ((5⁻¹ : ℝ) : EReal)
  ∧ IdealRules.named_const.Statement Cert.KernelIdeal.κ "count" .f32 0x3A820821#32 ((1008⁻¹ : ℝ) : EReal)

def preserves_ExactRoot_ExactRootIdeal : Prop :=
  IdealRules.named_const.Statement Cert.ExactRootIdeal.κ "fifth" .f32 0x3E4CCCCD#32 ((5⁻¹ : ℝ) : EReal)
  ∧ IdealRules.named_const.Statement Cert.ExactRootIdeal.κ "count" .f32 0x3A820821#32 ((1008⁻¹ : ℝ) : EReal)

def algebraic_ExactRootIdeal_ReferenceIdeal_pre_finite [hExactRootIdeal : Cert.ExactRootIdeal.Facts] [hReferenceIdeal : Cert.ReferenceIdeal.Facts] [hPre_finite : Cert.Pre_finite.Facts] : Prop :=
  ∀ (m : (ℓ : Loc Cert.ExactRootIdeal.nD Cert.ExactRootIdeal.τ Cert.ExactRootIdeal.sig) → Buf (Elt Ideal) ℓ) (g : Dev Cert.ExactRootIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_ExactRootIdeal_finite m →
    (∀ c : Dev Cert.ExactRootIdeal.nD,
      m' ((c.tc : Thread Cert.ReferenceIdeal.nD Cert.ReferenceIdeal.τ).loc Cert.ReferenceIdeal.main_arg0) = m ((c.tc : Thread Cert.ExactRootIdeal.nD Cert.ExactRootIdeal.τ).loc Cert.ExactRootIdeal.main_arg0)) →
    ∃ (v0 : (c : Dev Cert.ExactRootIdeal.nD) → Buf (Elt Ideal) ((c.tc : Thread Cert.ExactRootIdeal.nD Cert.ExactRootIdeal.τ).loc Cert.ExactRootIdeal.main_v2)),
      θ_run (Cert.ExactRootIdeal.defs (F := Ideal)) (Cert.ExactRootIdeal.threads (F := Ideal)) ⟨m, fun _ => 0, g⟩ (fun r => ∀ c : Dev Cert.ExactRootIdeal.nD,
          r.2.mem ((c.tc : Thread Cert.ExactRootIdeal.nD Cert.ExactRootIdeal.τ).loc Cert.ExactRootIdeal.main_v2) = v0 c
          ∧ r.2.mem ((c.tc : Thread Cert.ExactRootIdeal.nD Cert.ExactRootIdeal.τ).loc Cert.ExactRootIdeal.main_arg0) = m ((c.tc : Thread Cert.ExactRootIdeal.nD Cert.ExactRootIdeal.τ).loc Cert.ExactRootIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def holds_KernelIdeal_near_pre_finite [hKernelIdeal : Cert.KernelIdeal.Facts] [hPre_finite : Cert.Pre_finite.Facts] [hPost_near : Cert.Post_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ (Cert.Post_near.fn (F := Ideal) (m ((c.tc : Thread Cert.KernelIdeal.nD Cert.KernelIdeal.τ).loc Cert.KernelIdeal.main_arg0)) (r.2.mem ((c.tc : Thread Cert.KernelIdeal.nD Cert.KernelIdeal.τ).loc Cert.KernelIdeal.main_v2))) = (fun _ => 1#1))

def Claim : Prop :=
  ∃ (hKernel : Cert.Kernel.Facts) (hKernelIdeal : Cert.KernelIdeal.Facts) (hExactRoot : Cert.ExactRoot.Facts) (hExactRootIdeal : Cert.ExactRootIdeal.Facts) (hReferenceIdeal : Cert.ReferenceIdeal.Facts) (hPre_finite : Cert.Pre_finite.Facts) (hPost_near : Cert.Post_near.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ExactRoot (hExactRoot := hExactRoot)
    ∧ quiescent_ExactRootIdeal (hExactRootIdeal := hExactRootIdeal)
    ∧ quiescent_ExactRootIdeal_pre_finite (hExactRootIdeal := hExactRootIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ preserves_ExactRoot_ExactRootIdeal
    ∧ algebraic_ExactRootIdeal_ReferenceIdeal_pre_finite (hExactRootIdeal := hExactRootIdeal) (hReferenceIdeal := hReferenceIdeal) (hPre_finite := hPre_finite)
    ∧ holds_KernelIdeal_near_pre_finite (hKernelIdeal := hKernelIdeal) (hPre_finite := hPre_finite) (hPost_near := hPost_near)
-- ==== Post_near.lean ====
abbrev S8x128x128 : Shape := ⟨3, ![8, 128, 128]⟩
abbrev S_ : Shape := ⟨0, ![]⟩
abbrev S126x128x128 : Shape := ⟨3, ![126, 128, 128]⟩
abbrev S126 : Shape := ⟨1, ![126]⟩
abbrev S8x1x128x128 : Shape := ⟨4, ![8, 1, 128, 128]⟩
abbrev S8x126x128x128 : Shape := ⟨4, ![8, 126, 128, 128]⟩
abbrev S8x126 : Shape := ⟨2, ![8, 126]⟩
abbrev S1x126 : Shape := ⟨2, ![1, 126]⟩
abbrev S8x126x1x1 : Shape := ⟨4, ![8, 126, 1, 1]⟩
abbrev S1x126x1x1 : Shape := ⟨4, ![1, 126, 1, 1]⟩
abbrev S8 : Shape := ⟨1, ![8]⟩

class Facts : Prop where
  bcast_S_S126x128x128 : S_.BroadcastsInDim S126x128x128 (![] : Fin 0 → Fin S126x128x128.rank)
  bcast_S_S126 : S_.BroadcastsInDim S126 (![] : Fin 0 → Fin S126.rank)
  bcast_S8x128x128_S8x1x128x128_0_2_3 : S8x128x128.BroadcastsInDim S8x1x128x128 (![0, 2, 3] : Fin 3 → Fin S8x1x128x128.rank)
  bcast_S126x128x128_S8x126x128x128_1_2_3 : S126x128x128.BroadcastsInDim S8x126x128x128 (![1, 2, 3] : Fin 3 → Fin S8x126x128x128.rank)
  bcast_S8x1x128x128_S8x126x128x128_0_1_2_3 : S8x1x128x128.BroadcastsInDim S8x126x128x128 (![0, 1, 2, 3] : Fin 4 → Fin S8x126x128x128.rank)
  bcast_S_S8x126x128x128 : S_.BroadcastsInDim S8x126x128x128 (![] : Fin 0 → Fin S8x126x128x128.rank)
  reducesTo_S8x126x128x128_S8x126_d2_3 : S8x126x128x128.ReducesTo [2, 3] S8x126
  h_S_ : 0 < S_.numel
  bcast_S126_S1x126_1 : S126.BroadcastsInDim S1x126 (![1] : Fin 1 → Fin S1x126.rank)
  bcast_S1x126_S8x126_0_1 : S1x126.BroadcastsInDim S8x126 (![0, 1] : Fin 2 → Fin S8x126.rank)
  bcast_S8x126_S8x126x1x1_0_1 : S8x126.BroadcastsInDim S8x126x1x1 (![0, 1] : Fin 2 → Fin S8x126x1x1.rank)
  bcast_S8x126x1x1_S8x126x128x128_0_1_2_3 : S8x126x1x1.BroadcastsInDim S8x126x128x128 (![0, 1, 2, 3] : Fin 4 → Fin S8x126x128x128.rank)
  bcast_S_S8x126 : S_.BroadcastsInDim S8x126 (![] : Fin 0 → Fin S8x126.rank)
  bcast_S126_S1x126x1x1_1 : S126.BroadcastsInDim S1x126x1x1 (![1] : Fin 1 → Fin S1x126x1x1.rank)
  bcast_S1x126x1x1_S8x126x128x128_0_1_2_3 : S1x126x1x1.BroadcastsInDim S8x126x128x128 (![0, 1, 2, 3] : Fin 4 → Fin S8x126x128x128.rank)
  reducesTo_S8x126_S8_d1 : S8x126.ReducesTo [1] S8
  bcast_S_S8 : S_.BroadcastsInDim S8 (![] : Fin 0 → Fin S8.rank)
  reducesTo_S8_S_d0 : S8.ReducesTo [0] S_

variable [Facts]

def fn_where {F : FTy → Type} [FloatOps F] (arg0 : IVec S126x128x128 1) (arg1 : FVec F S8x1x128x128 .f32) (arg2 : FVec F S_ .f32) : FVec F S8x126x128x128 .f32 :=
  let v0 : FVec F S_ .f32 := id arg2
  let v1 : IVec S8x126x128x128 1 := broadcastInDim S8x126x128x128 ![1, 2, 3] bcast_S126x128x128_S8x126x128x128_1_2_3 arg0
  let v2 : FVec F S8x126x128x128 .f32 := broadcastInDim S8x126x128x128 ![0, 1, 2, 3] bcast_S8x1x128x128_S8x126x128x128_0_1_2_3 arg1
  let v3 : FVec F S8x126x128x128 .f32 := broadcastInDim S8x126x128x128 ![] bcast_S_S8x126x128x128 v0
  let v4 : FVec F S8x126x128x128 .f32 := select v1 v2 v3
  v4

def fn_where_0 {F : FTy → Type} [FloatOps F] (arg0 : IVec S126x128x128 1) (arg1 : FVec F S8x126x128x128 .f32) (arg2 : FVec F S_ .f32) : FVec F S8x126x128x128 .f32 :=
  let v0 : FVec F S_ .f32 := id arg2
  let v1 : IVec S8x126x128x128 1 := broadcastInDim S8x126x128x128 ![1, 2, 3] bcast_S126x128x128_S8x126x128x128_1_2_3 arg0
  let v2 : FVec F S8x126x128x128 .f32 := broadcastInDim S8x126x128x128 ![] bcast_S_S8x126x128x128 v0
  let v3 : FVec F S8x126x128x128 .f32 := select v1 arg1 v2
  v3

def fn_where_1 {F : FTy → Type} [FloatOps F] (arg0 : IVec S8x126 1) (arg1 : FVec F S8x126 .f32) (arg2 : FVec F S8x126 .f32) : FVec F S8x126 .f32 :=
  let v0 : FVec F S8x126 .f32 := select arg0 arg1 arg2
  v0

def fn_part5 {F : FTy → Type} [FloatOps F] (main_arg1 : FVec F S_ .f32) (main_v84 : FVec F S_ .f32) (main_v85 : IVec S_ 1) (main_v91 : FVec F S8 .f32) (main_cst_25 : FVec F S_ .f32) : IVec S_ 1 :=
  let main_v92 : FVec F S8 .f32 := broadcastInDim S8 ![] bcast_S_S8 main_cst_25
  let main_v93 : FVec F S8 .f32 := Host.divf main_v91 main_v92
  let main_cst_26 : FVec F S_ .f32 := constant S_ .f32 0x00000000#32
  let main_v94 : FVec F S_ .f32 := (fun x v => Host.reduceAdd x v reducesTo_S8_S_d0 h_S_) main_v93 main_cst_26
  let main_cst_27 : FVec F S_ .f32 := constant S_ .f32 0x41000000#32
  let main_v95 : FVec F S_ .f32 := Host.divf main_v94 main_cst_27
  let main_v96 : FVec F S_ .f32 := addf main_v84 main_v95
  let main_v97 : IVec S_ 1 := cmpf .ole main_arg1 main_v96
  let main_v98 : IVec S_ 1 := andi main_v85 main_v97
  main_v98

def fn_part4 {F : FTy → Type} [FloatOps F] (main_arg1 : FVec F S_ .f32) (main_v10 : FVec F S126 .f32) (main_v44 : FVec F S8x126 .f32) (main_v55 : FVec F S126 .f32) (main_v73 : FVec F S8x126 .f32) (main_v74 : FVec F S126 .f32) : IVec S_ 1 :=
  let main_v75 : FVec F S126 .f32 := subf main_v55 main_v74
  let main_v76 : FVec F S1x126 .f32 := broadcastInDim S1x126 ![1] bcast_S126_S1x126_1 main_v75
  let main_v77 : FVec F S8x126 .f32 := broadcastInDim S8x126 ![0, 1] bcast_S1x126_S8x126_0_1 main_v76
  let main_v78 : FVec F S8x126 .f32 := Host.divf main_v73 main_v77
  let main_v79 : FVec F S8x126 .f32 := Host.sqrt main_v78
  let main_cst_19 : FVec F S_ .f32 := constant S_ .f32 0x00000000#32
  let main_v80 : FVec F S8 .f32 := (fun x v => Host.reduceAdd x v reducesTo_S8x126_S8_d1 h_S_) main_v79 main_cst_19
  let main_cst_20 : FVec F S_ .f32 := constant S_ .f32 0x42FC0000#32
  let main_v81 : FVec F S8 .f32 := broadcastInDim S8 ![] bcast_S_S8 main_cst_20
  let main_v82 : FVec F S8 .f32 := Host.divf main_v80 main_v81
  let main_cst_21 : FVec F S_ .f32 := constant S_ .f32 0x00000000#32
  let main_v83 : FVec F S_ .f32 := (fun x v => Host.reduceAdd x v reducesTo_S8_S_d0 h_S_) main_v82 main_cst_21
  let main_cst_22 : FVec F S_ .f32 := constant S_ .f32 0x41000000#32
  let main_v84 : FVec F S_ .f32 := Host.divf main_v83 main_cst_22
  let main_v85 : IVec S_ 1 := cmpf .ole main_v84 main_arg1
  let main_v86 : FVec F S1x126 .f32 := broadcastInDim S1x126 ![1] bcast_S126_S1x126_1 main_v10
  let main_v87 : FVec F S8x126 .f32 := broadcastInDim S8x126 ![0, 1] bcast_S1x126_S8x126_0_1 main_v86
  let main_v88 : FVec F S8x126 .f32 := mulf main_v44 main_v87
  let main_cst_23 : FVec F S_ .f32 := constant S_ .f32 0x40A00000#32
  let main_v89 : FVec F S8x126 .f32 := broadcastInDim S8x126 ![] bcast_S_S8x126 main_cst_23
  let main_v90 : FVec F S8x126 .f32 := Host.divf main_v88 main_v89
  let main_cst_24 : FVec F S_ .f32 := constant S_ .f32 0x00000000#32
  let main_v91 : FVec F S8 .f32 := (fun x v => Host.reduceAdd x v reducesTo_S8x126_S8_d1 h_S_) main_v90 main_cst_24
  let main_cst_25 : FVec F S_ .f32 := constant S_ .f32 0x42FC0000#32
  fn_part5 (F := F) main_arg1 main_v84 main_v85 main_v91 main_cst_25

def fn_part3 {F : FTy → Type} [FloatOps F] (main_arg1 : FVec F S_ .f32) (main_v10 : FVec F S126 .f32) (main_v44 : FVec F S8x126 .f32) (main_v51 : IVec S126x128x128 1) (main_v55 : FVec F S126 .f32) (main_v56 : FVec F S8x1x128x128 .f32) : IVec S_ 1 :=
  let main_v57 : FVec F S1x126x1x1 .f32 := broadcastInDim S1x126x1x1 ![1] bcast_S126_S1x126x1x1_1 main_v55
  let main_v58 : FVec F S8x126x128x128 .f32 := broadcastInDim S8x126x128x128 ![0, 1, 2, 3] bcast_S8x1x128x128_S8x126x128x128_0_1_2_3 main_v56
  let main_v59 : FVec F S8x126x128x128 .f32 := broadcastInDim S8x126x128x128 ![0, 1, 2, 3] bcast_S1x126x1x1_S8x126x128x128_0_1_2_3 main_v57
  let main_v60 : FVec F S8x126x128x128 .f32 := mulf main_v58 main_v59
  let main_cst_13 : FVec F S_ .f32 := constant S_ .f32 0x40A00000#32
  let main_v61 : FVec F S8x126x128x128 .f32 := broadcastInDim S8x126x128x128 ![] bcast_S_S8x126x128x128 main_cst_13
  let main_v62 : FVec F S8x126x128x128 .f32 := Host.divf main_v60 main_v61
  let main_cst_14 : FVec F S_ .f32 := constant S_ .f32 0x00000000#32
  let main_v63 : FVec F S8x126x128x128 .f32 := fn_where_0 (F := F) main_v51 main_v62 main_cst_14
  let main_cst_15 : FVec F S_ .f32 := constant S_ .f32 0x00000000#32
  let main_v64 : FVec F S8x126 .f32 := (fun x v => Host.reduceAdd x v reducesTo_S8x126x128x128_S8x126_d2_3 h_S_) main_v63 main_cst_15
  let main_v65 : FVec F S1x126 .f32 := broadcastInDim S1x126 ![1] bcast_S126_S1x126_1 main_v55
  let main_v66 : FVec F S8x126 .f32 := broadcastInDim S8x126 ![0, 1] bcast_S1x126_S8x126_0_1 main_v65
  let main_v67 : FVec F S8x126 .f32 := Host.divf main_v64 main_v66
  let main_v68 : FVec F S8x126x1x1 .f32 := broadcastInDim S8x126x1x1 ![0, 1] bcast_S8x126_S8x126x1x1_0_1 main_v67
  let main_v69 : FVec F S8x126x128x128 .f32 := broadcastInDim S8x126x128x128 ![0, 1, 2, 3] bcast_S8x126x1x1_S8x126x128x128_0_1_2_3 main_v68
  let main_v70 : FVec F S8x126x128x128 .f32 := subf main_v62 main_v69
  let main_cst_16 : FVec F S_ .f32 := constant S_ .f32 0x00000000#32
  let main_v71 : FVec F S8x126x128x128 .f32 := fn_where_0 (F := F) main_v51 main_v70 main_cst_16
  let main_v72 : FVec F S8x126x128x128 .f32 := mulf main_v71 main_v71
  let main_cst_17 : FVec F S_ .f32 := constant S_ .f32 0x00000000#32
  let main_v73 : FVec F S8x126 .f32 := (fun x v => Host.reduceAdd x v reducesTo_S8x126x128x128_S8x126_d2_3 h_S_) main_v72 main_cst_17
  let main_cst_18 : FVec F S_ .f32 := constant S_ .f32 0x3F800000#32
  let main_v74 : FVec F S126 .f32 := broadcastInDim S126 ![] bcast_S_S126 main_cst_18
  fn_part4 (F := F) main_arg1 main_v10 main_v44 main_v55 main_v73 main_v74

def fn_part2 {F : FTy → Type} [FloatOps F] (main_arg0 : FVec F S8x128x128 .f32) (main_arg1 : FVec F S_ .f32) (main_v10 : FVec F S126 .f32) (main_v29 : FVec F S8x126 .f32) (main_v34 : IVec S8x126 1) (main_v36 : FVec F S8x126 .f32) (main_cst_8 : FVec F S_ .f32) : IVec S_ 1 :=
  let main_v37 : FVec F S8x126 .f32 := broadcastInDim S8x126 ![] bcast_S_S8x126 main_cst_8
  let main_v38 : FVec F S8x126 .f32 := subf main_v37 main_v29
  let main_cst_9 : FVec F S_ .f32 := constant S_ .f32 0x3F800000#32
  let main_v39 : FVec F S8x126 .f32 := broadcastInDim S8x126 ![] bcast_S_S8x126 main_cst_9
  let main_v40 : FVec F S8x126 .f32 := subf main_v39 main_v29
  let main_v41 : FVec F S8x126 .f32 := mulf main_v38 main_v40
  let main_cst_10 : FVec F S_ .f32 := constant S_ .f32 0x45000000#32
  let main_v42 : FVec F S8x126 .f32 := broadcastInDim S8x126 ![] bcast_S_S8x126 main_cst_10
  let main_v43 : FVec F S8x126 .f32 := Host.divf main_v41 main_v42
  let main_v44 : FVec F S8x126 .f32 := fn_where_1 (F := F) main_v34 main_v36 main_v43
  let main_v45 : IVec S126x128x128 32 := iotaInDim S126x128x128 32 1
  let main_v46 : IVec S126x128x128 32 := iotaInDim S126x128x128 32 2
  let main_v47 : IVec S126x128x128 32 := iotaInDim S126x128x128 32 0
  let main_c_11 : IVec S_ 32 := constantI S_ 32 1#32
  let main_v48 : IVec S126x128x128 32 := broadcastInDim S126x128x128 ![] bcast_S_S126x128x128 main_c_11
  let main_v49 : IVec S126x128x128 32 := addi main_v47 main_v48
  let main_v50 : IVec S126x128x128 32 := subi main_v46 main_v45
  let main_v51 : IVec S126x128x128 1 := cmpi .eq main_v50 main_v49
  let main_v52 : IVec S126 32 := iotaInDim S126 32 0
  let main_c_12 : IVec S_ 32 := constantI S_ 32 127#32
  let main_v53 : IVec S126 32 := broadcastInDim S126 ![] bcast_S_S126 main_c_12
  let main_v54 : IVec S126 32 := subi main_v53 main_v52
  let main_v55 : FVec F S126 .f32 := sitofp .f32 main_v54
  let main_v56 : FVec F S8x1x128x128 .f32 := broadcastInDim S8x1x128x128 ![0, 2, 3] bcast_S8x128x128_S8x1x128x128_0_2_3 main_arg0
  fn_part3 (F := F) main_arg1 main_v10 main_v44 main_v51 main_v55 main_v56

def fn_part1 {F : FTy → Type} [FloatOps F] (main_arg0 : FVec F S8x128x128 .f32) (main_arg1 : FVec F S_ .f32) (main_v6 : IVec S126x128x128 1) (main_v10 : FVec F S126 .f32) (main_v18 : FVec F S8x126x128x128 .f32) (main_v19 : FVec F S8x126x128x128 .f32) : IVec S_ 1 :=
  let main_v20 : FVec F S8x126x128x128 .f32 := subf main_v18 main_v19
  let main_cst_2 : FVec F S_ .f32 := constant S_ .f32 0x00000000#32
  let main_v21 : FVec F S8x126x128x128 .f32 := fn_where_0 (F := F) main_v6 main_v20 main_cst_2
  let main_v22 : FVec F S8x126x128x128 .f32 := mulf main_v21 main_v21
  let main_cst_3 : FVec F S_ .f32 := constant S_ .f32 0x00000000#32
  let main_v23 : FVec F S8x126 .f32 := (fun x v => Host.reduceAdd x v reducesTo_S8x126x128x128_S8x126_d2_3 h_S_) main_v22 main_cst_3
  let main_cst_4 : FVec F S_ .f32 := constant S_ .f32 0x3F800000#32
  let main_v24 : FVec F S126 .f32 := broadcastInDim S126 ![] bcast_S_S126 main_cst_4
  let main_v25 : FVec F S126 .f32 := subf main_v10 main_v24
  let main_v26 : FVec F S1x126 .f32 := broadcastInDim S1x126 ![1] bcast_S126_S1x126_1 main_v25
  let main_v27 : FVec F S8x126 .f32 := broadcastInDim S8x126 ![0, 1] bcast_S1x126_S8x126_0_1 main_v26
  let main_v28 : FVec F S8x126 .f32 := Host.divf main_v23 main_v27
  let main_v29 : FVec F S8x126 .f32 := Host.sqrt main_v28
  let main_cst_5 : FVec F S_ .f32 := constant S_ .f32 0x3C800000#32
  let main_v30 : FVec F S8x126 .f32 := broadcastInDim S8x126 ![] bcast_S_S8x126 main_cst_5
  let main_v31 : IVec S8x126 1 := cmpf .oge main_v29 main_v30
  let main_cst_6 : FVec F S_ .f32 := constant S_ .f32 0x42800000#32
  let main_v32 : FVec F S8x126 .f32 := broadcastInDim S8x126 ![] bcast_S_S8x126 main_cst_6
  let main_v33 : IVec S8x126 1 := cmpf .ole main_v29 main_v32
  let main_v34 : IVec S8x126 1 := andi main_v31 main_v33
  let main_cst_7 : FVec F S_ .f32 := constant S_ .f32 0x26800000#32
  let main_v35 : FVec F S8x126 .f32 := broadcastInDim S8x126 ![] bcast_S_S8x126 main_cst_7
  let main_v36 : FVec F S8x126 .f32 := mulf main_v29 main_v35
  let main_cst_8 : FVec F S_ .f32 := constant S_ .f32 0x3F800000#32
  fn_part2 (F := F) main_arg0 main_arg1 main_v10 main_v29 main_v34 main_v36 main_cst_8

def fn {F : FTy → Type} [FloatOps F] (main_arg0 : FVec F S8x128x128 .f32) (main_arg1 : FVec F S_ .f32) : IVec S_ 1 :=
  let main_v0 : IVec S126x128x128 32 := iotaInDim S126x128x128 32 1
  let main_v1 : IVec S126x128x128 32 := iotaInDim S126x128x128 32 2
  let main_v2 : IVec S126x128x128 32 := iotaInDim S126x128x128 32 0
  let main_c : IVec S_ 32 := constantI S_ 32 1#32
  let main_v3 : IVec S126x128x128 32 := broadcastInDim S126x128x128 ![] bcast_S_S126x128x128 main_c
  let main_v4 : IVec S126x128x128 32 := addi main_v2 main_v3
  let main_v5 : IVec S126x128x128 32 := subi main_v1 main_v0
  let main_v6 : IVec S126x128x128 1 := cmpi .eq main_v5 main_v4
  let main_v7 : IVec S126 32 := iotaInDim S126 32 0
  let main_c_0 : IVec S_ 32 := constantI S_ 32 127#32
  let main_v8 : IVec S126 32 := broadcastInDim S126 ![] bcast_S_S126 main_c_0
  let main_v9 : IVec S126 32 := subi main_v8 main_v7
  let main_v10 : FVec F S126 .f32 := sitofp .f32 main_v9
  let main_v11 : FVec F S8x1x128x128 .f32 := broadcastInDim S8x1x128x128 ![0, 2, 3] bcast_S8x128x128_S8x1x128x128_0_2_3 main_arg0
  let main_cst : FVec F S_ .f32 := constant S_ .f32 0x00000000#32
  let main_v12 : FVec F S8x126x128x128 .f32 := fn_where (F := F) main_v6 main_v11 main_cst
  let main_cst_1 : FVec F S_ .f32 := constant S_ .f32 0x00000000#32
  let main_v13 : FVec F S8x126 .f32 := (fun x v => Host.reduceAdd x v reducesTo_S8x126x128x128_S8x126_d2_3 h_S_) main_v12 main_cst_1
  let main_v14 : FVec F S1x126 .f32 := broadcastInDim S1x126 ![1] bcast_S126_S1x126_1 main_v10
  let main_v15 : FVec F S8x126 .f32 := broadcastInDim S8x126 ![0, 1] bcast_S1x126_S8x126_0_1 main_v14
  let main_v16 : FVec F S8x126 .f32 := Host.divf main_v13 main_v15
  let main_v17 : FVec F S8x126x1x1 .f32 := broadcastInDim S8x126x1x1 ![0, 1] bcast_S8x126_S8x126x1x1_0_1 main_v16
  let main_v18 : FVec F S8x126x128x128 .f32 := broadcastInDim S8x126x128x128 ![0, 1, 2, 3] bcast_S8x1x128x128_S8x126x128x128_0_1_2_3 main_v11
  let main_v19 : FVec F S8x126x128x128 .f32 := broadcastInDim S8x126x128x128 ![0, 1, 2, 3] bcast_S8x126x1x1_S8x126x128x128_0_1_2_3 main_v17
  fn_part1 (F := F) main_arg0 main_arg1 main_v6 main_v10 main_v18 main_v19
-- ==== Pre_finite.lean ====
abbrev S8x128x128 : Shape := ⟨3, ![8, 128, 128]⟩
abbrev S_ : Shape := ⟨0, ![]⟩

class Facts : Prop where
  bcast_S_S8x128x128 : S_.BroadcastsInDim S8x128x128 (![] : Fin 0 → Fin S8x128x128.rank)
  reducesTo_S8x128x128_S_d0_1_2 : S8x128x128.ReducesTo [0, 1, 2] S_
  h_S_ : 0 < S_.numel

variable [Facts]

def fn {F : FTy → Type} [FloatOps F] (main_arg0 : FVec F S8x128x128 .f32) : IVec S_ 1 :=
  let main_v0 : FVec F S8x128x128 .f32 := Host.absf main_arg0
  let main_cst : FVec F S_ .f32 := constant S_ .f32 0x7F800000#32
  let main_v1 : FVec F S8x128x128 .f32 := broadcastInDim S8x128x128 ![] bcast_S_S8x128x128 main_cst
  let main_v2 : IVec S8x128x128 1 := cmpf .olt main_v0 main_v1
  let main_c : IVec S_ 1 := constantI S_ 1 1#1
  let main_v3 : IVec S_ 1 := (fun x v => Host.reduce IntOp.andi x v reducesTo_S8x128x128_S_d0_1_2 h_S_) main_v2 main_c
  main_v3
-- ==== Kernel.lean ====
abbrev S8x128x128 : Shape := ⟨3, ![8, 128, 128]⟩
abbrev S8x16384 : Shape := ⟨2, ![8, 16384]⟩
abbrev S16x16 : Shape := ⟨2, ![16, 16]⟩
abbrev S16448 : Shape := ⟨1, ![16448]⟩
abbrev S16 : Shape := ⟨1, ![16]⟩
abbrev S_ : Shape := ⟨0, ![]⟩
abbrev S12160 : Shape := ⟨1, ![12160]⟩
abbrev S1x12160 : Shape := ⟨2, ![1, 12160]⟩
abbrev S16256 : Shape := ⟨1, ![16256]⟩
abbrev S1x16256 : Shape := ⟨2, ![1, 16256]⟩
abbrev S1x16 : Shape := ⟨2, ![1, 16]⟩

abbrev nBuf : Table → Nat
  | .hbm => 5
  | .local .scVector .vmem => 2
  | _ => 0

abbrev bufTy : (tb : Table) → Fin (nBuf tb) → BufTy
  | .hbm, ⟨0, _⟩ => ⟨S8x128x128, .f32⟩
  | .hbm, ⟨1, _⟩ => ⟨S8x16384, .f32⟩
  | .hbm, ⟨2, _⟩ => ⟨S16x16, .f32⟩
  | .hbm, ⟨3, _⟩ => ⟨S_, .f32⟩
  | .hbm, ⟨4, _⟩ => ⟨S_, .f32⟩
  | .local .scVector .vmem, ⟨0, _⟩ => ⟨S16448, .f32⟩
  | .local .scVector .vmem, ⟨1, _⟩ => ⟨S16, .f32⟩
  | _, _ => ⟨S8x128x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c1_i32_0 : BitVec 32 := 1#32
  let v1 : BitVec 32 := Scalar.andi arg1 c1_i32_0
  let c0_i32 : BitVec 32 := 0#32
  let v2 : BitVec 32 := Scalar.maxsi v1 c0_i32
  let c1_i32_1 : BitVec 32 := 1#32
  let v3 : BitVec 32 := Scalar.minsi v2 c1_i32_1
  let c0_i32_2 : BitVec 32 := 0#32
  let v4 : BitVec 1 := Scalar.cmpi .ne v3 c0_i32_2
  v4

def k0_off1 (i : grid0.Coords) : Fin 2 → Nat :=
  let arg1 : BitVec 32 := BitVec.ofNat 32 (i 1).val
  let c1_i32 : BitVec 32 := 1#32
  let v0 : BitVec 32 := Scalar.shrsi arg1 c1_i32
  let c0_i32_60_r0 : BitVec 32 := 0#32
  ![v0.toNat, 0]
def k0_off2 (i : grid0.Coords) : Fin 2 → Nat :=
  let arg1 : BitVec 32 := BitVec.ofNat 32 (i 1).val
  let c1_i32 : BitVec 32 := 1#32
  let v0 : BitVec 32 := Scalar.shrsi arg1 c1_i32
  let c0_i32_60_r1 : BitVec 32 := 0#32
  ![v0.toNat, 0]
@[reducible] def k0_t1_loop (i : grid0.Coords) : Scf.Loop 32 :=
  let c0_i32_10 : BitVec 32 := 0#32
  let arg1 : BitVec 32 := BitVec.ofNat 32 (i 1).val
  let c1_i32_0 : BitVec 32 := 1#32
  let v1 : BitVec 32 := Scalar.andi arg1 c1_i32_0
  let c0_i32_8 : BitVec 32 := 0#32
  let v22 : BitVec 1 := Scalar.cmpi .eq v1 c0_i32_8
  let c16_i32 : BitVec 32 := 16#32
  let c32_i32 : BitVec 32 := 32#32
  let v23 : BitVec 32 := Scalar.select v22 c16_i32 c32_i32
  let v27 : BitVec 32 := Scalar.subi v23 c0_i32_10
  let c1_i32_11 : BitVec 32 := 1#32
  let v29 : BitVec 32 := Scalar.divsi v27 c1_i32_11
  let v30 : BitVec 32 := Scalar.muli v29 c1_i32_11
  let v31 : BitVec 32 := Scalar.addi c0_i32_10 v30
  let c1_i32_12 : BitVec 32 := 1#32
  ⟨c0_i32_10, v31, c1_i32_12⟩
def k0_off3 (i : grid0.Coords) (k0_t1 : Fin (k0_t1_loop i).trips) (c1_i32_4 : BitVec 32) (c33_i32 : BitVec 32) : Fin 1 → Nat :=
  let arg1 : BitVec 32 := BitVec.ofNat 32 (i 1).val
  let c1_i32_0 : BitVec 32 := 1#32
  let v1 : BitVec 32 := Scalar.andi arg1 c1_i32_0
  let c0_i32_3 : BitVec 32 := 0#32
  let v6 : BitVec 1 := Scalar.cmpi .eq v1 c0_i32_3
  let v7 : BitVec 32 := Scalar.select v6 c1_i32_4 c33_i32
  let c129_i32 : BitVec 32 := 129#32
  let c0_i32_60 : BitVec 32 := 0#32
  let c0_i32_10 : BitVec 32 := 0#32
  let c1_i32_12 : BitVec 32 := 1#32
  let arg6 : BitVec 32 := Scf.iv c0_i32_10 c1_i32_12 k0_t1
  let c2_i32_59 : BitVec 32 := 2#32
  let v145 : BitVec 32 := Scalar.muli arg6 c2_i32_59
  let v146 : BitVec 32 := Scalar.addi c0_i32_60 v145
  let v147 : BitVec 32 := Scalar.muli c129_i32 v146
  let v148 : BitVec 32 := Scalar.addi v7 v147
  let v149 : Index := Scalar.indexCast v148
  ![v149.toNat]
def k0_off3_at (r : Fin 4) : BitVec 32 × BitVec 32 :=
  if r.val < 2 then
    if r.val < 1 then
      (1#32, 33#32)
    else
      (17#32, 49#32)
  else
    if r.val < 3 then
      (97#32, 65#32)
    else
      (113#32, 81#32)
def k0_off4 (i : grid0.Coords) (k0_t1 : Fin (k0_t1_loop i).trips) (c1_i32_4 : BitVec 32) (c33_i32 : BitVec 32) : Fin 1 → Nat :=
  let arg1 : BitVec 32 := BitVec.ofNat 32 (i 1).val
  let c1_i32_0 : BitVec 32 := 1#32
  let v1 : BitVec 32 := Scalar.andi arg1 c1_i32_0
  let c0_i32_3 : BitVec 32 := 0#32
  let v6 : BitVec 1 := Scalar.cmpi .eq v1 c0_i32_3
  let v7 : BitVec 32 := Scalar.select v6 c1_i32_4 c33_i32
  let c129_i32 : BitVec 32 := 129#32
  let c0_i32_60 : BitVec 32 := 0#32
  let c0_i32_10 : BitVec 32 := 0#32
  let c1_i32_12 : BitVec 32 := 1#32
  let arg6 : BitVec 32 := Scf.iv c0_i32_10 c1_i32_12 k0_t1
  let c2_i32_59 : BitVec 32 := 2#32
  let v145 : BitVec 32 := Scalar.muli arg6 c2_i32_59
  let v146 : BitVec 32 := Scalar.addi c0_i32_60 v145
  let v147 : BitVec 32 := Scalar.muli c129_i32 v146
  let v148 : BitVec 32 := Scalar.addi v7 v147
  let c129_i32_61 : BitVec 32 := 129#32
  let v154 : BitVec 32 := Scalar.addi v148 c129_i32_61
  let v155 : Index := Scalar.indexCast v154
  ![v155.toNat]
def k0_off4_at (r : Fin 4) : BitVec 32 × BitVec 32 :=
  if r.val < 2 then
    if r.val < 1 then
      (1#32, 33#32)
    else
      (17#32, 49#32)
  else
    if r.val < 3 then
      (97#32, 65#32)
    else
      (113#32, 81#32)
@[reducible] def k0_t2_loop (i : grid0.Coords) : Scf.Loop 32 :=
  let c0_i32_10 : BitVec 32 := 0#32
  let arg1 : BitVec 32 := BitVec.ofNat 32 (i 1).val
  let c1_i32_0 : BitVec 32 := 1#32
  let v1 : BitVec 32 := Scalar.andi arg1 c1_i32_0
  let c0_i32_8 : BitVec 32 := 0#32
  let v22 : BitVec 1 := Scalar.cmpi .eq v1 c0_i32_8
  let c16_i32 : BitVec 32 := 16#32
  let c32_i32 : BitVec 32 := 32#32
  let v23 : BitVec 32 := Scalar.select v22 c16_i32 c32_i32
  let v27 : BitVec 32 := Scalar.subi v23 c0_i32_10
  let c1_i32_11 : BitVec 32 := 1#32
  let v29 : BitVec 32 := Scalar.divsi v27 c1_i32_11
  let v30 : BitVec 32 := Scalar.muli v29 c1_i32_11
  let v31 : BitVec 32 := Scalar.addi c0_i32_10 v30
  let v28 : BitVec 32 := Scalar.addi c0_i32_10 v27
  let c1_i32_13 : BitVec 32 := 1#32
  ⟨v31, v28, c1_i32_13⟩
def k0_off5 (i : grid0.Coords) (k0_t2 : Fin (k0_t2_loop i).trips) (c1_i32_4 : BitVec 32) (c33_i32 : BitVec 32) : Fin 1 → Nat :=
  let arg1 : BitVec 32 := BitVec.ofNat 32 (i 1).val
  let c1_i32_0 : BitVec 32 := 1#32
  let v1 : BitVec 32 := Scalar.andi arg1 c1_i32_0
  let c0_i32_3 : BitVec 32 := 0#32
  let v6 : BitVec 1 := Scalar.cmpi .eq v1 c0_i32_3
  let v7 : BitVec 32 := Scalar.select v6 c1_i32_4 c33_i32
  let c129_i32 : BitVec 32 := 129#32
  let c0_i32_60 : BitVec 32 := 0#32
  let c0_i32_10 : BitVec 32 := 0#32
  let c0_i32_8 : BitVec 32 := 0#32
  let v22 : BitVec 1 := Scalar.cmpi .eq v1 c0_i32_8
  let c16_i32 : BitVec 32 := 16#32
  let c32_i32 : BitVec 32 := 32#32
  let v23 : BitVec 32 := Scalar.select v22 c16_i32 c32_i32
  let v27 : BitVec 32 := Scalar.subi v23 c0_i32_10
  let c1_i32_11 : BitVec 32 := 1#32
  let v29 : BitVec 32 := Scalar.divsi v27 c1_i32_11
  let v30 : BitVec 32 := Scalar.muli v29 c1_i32_11
  let v31 : BitVec 32 := Scalar.addi c0_i32_10 v30
  let c1_i32_13 : BitVec 32 := 1#32
  let arg6 : BitVec 32 := Scf.iv v31 c1_i32_13 k0_t2
  let c2_i32_59 : BitVec 32 := 2#32
  let v145 : BitVec 32 := Scalar.muli arg6 c2_i32_59
  let v146 : BitVec 32 := Scalar.addi c0_i32_60 v145
  let v147 : BitVec 32 := Scalar.muli c129_i32 v146
  let v148 : BitVec 32 := Scalar.addi v7 v147
  let v149 : Index := Scalar.indexCast v148
  ![v149.toNat]
def k0_off5_at (r : Fin 4) : BitVec 32 × BitVec 32 :=
  if r.val < 2 then
    if r.val < 1 then
      (1#32, 33#32)
    else
      (17#32, 49#32)
  else
    if r.val < 3 then
      (97#32, 65#32)
    else
      (113#32, 81#32)
def k0_off6 (i : grid0.Coords) (k0_t2 : Fin (k0_t2_loop i).trips) (c1_i32_4 : BitVec 32) (c33_i32 : BitVec 32) : Fin 1 → Nat :=
  let arg1 : BitVec 32 := BitVec.ofNat 32 (i 1).val
  let c1_i32_0 : BitVec 32 := 1#32
  let v1 : BitVec 32 := Scalar.andi arg1 c1_i32_0
  let c0_i32_3 : BitVec 32 := 0#32
  let v6 : BitVec 1 := Scalar.cmpi .eq v1 c0_i32_3
  let v7 : BitVec 32 := Scalar.select v6 c1_i32_4 c33_i32
  let c129_i32 : BitVec 32 := 129#32
  let c0_i32_60 : BitVec 32 := 0#32
  let c0_i32_10 : BitVec 32 := 0#32
  let c0_i32_8 : BitVec 32 := 0#32
  let v22 : BitVec 1 := Scalar.cmpi .eq v1 c0_i32_8
  let c16_i32 : BitVec 32 := 16#32
  let c32_i32 : BitVec 32 := 32#32
  let v23 : BitVec 32 := Scalar.select v22 c16_i32 c32_i32
  let v27 : BitVec 32 := Scalar.subi v23 c0_i32_10
  let c1_i32_11 : BitVec 32 := 1#32
  let v29 : BitVec 32 := Scalar.divsi v27 c1_i32_11
  let v30 : BitVec 32 := Scalar.muli v29 c1_i32_11
  let v31 : BitVec 32 := Scalar.addi c0_i32_10 v30
  let c1_i32_13 : BitVec 32 := 1#32
  let arg6 : BitVec 32 := Scf.iv v31 c1_i32_13 k0_t2
  let c2_i32_59 : BitVec 32 := 2#32
  let v145 : BitVec 32 := Scalar.muli arg6 c2_i32_59
  let v146 : BitVec 32 := Scalar.addi c0_i32_60 v145
  let v147 : BitVec 32 := Scalar.muli c129_i32 v146
  let v148 : BitVec 32 := Scalar.addi v7 v147
  let c129_i32_61 : BitVec 32 := 129#32
  let v154 : BitVec 32 := Scalar.addi v148 c129_i32_61
  let v155 : Index := Scalar.indexCast v154
  ![v155.toNat]
def k0_off6_at (r : Fin 4) : BitVec 32 × BitVec 32 :=
  if r.val < 2 then
    if r.val < 1 then
      (1#32, 33#32)
    else
      (17#32, 49#32)
  else
    if r.val < 3 then
      (97#32, 65#32)
    else
      (113#32, 81#32)
@[reducible] def k0_t3_loop (i : grid0.Coords) : Scf.Loop 32 :=
  let c0_i32_15 : BitVec 32 := 0#32
  let arg1 : BitVec 32 := BitVec.ofNat 32 (i 1).val
  let c1_i32_0 : BitVec 32 := 1#32
  let v1 : BitVec 32 := Scalar.andi arg1 c1_i32_0
  let c0_i32_9 : BitVec 32 := 0#32
  let v24 : BitVec 1 := Scalar.cmpi .eq v1 c0_i32_9
  let c40_i32 : BitVec 32 := 40#32
  let c8_i32 : BitVec 32 := 8#32
  let v25 : BitVec 32 := Scalar.select v24 c40_i32 c8_i32
  let v36 : BitVec 32 := Scalar.subi v25 c0_i32_15
  let c1_i32_16 : BitVec 32 := 1#32
  let v38 : BitVec 32 := Scalar.divsi v36 c1_i32_16
  let v39 : BitVec 32 := Scalar.muli v38 c1_i32_16
  let v40 : BitVec 32 := Scalar.addi c0_i32_15 v39
  let c1_i32_17 : BitVec 32 := 1#32
  ⟨c0_i32_15, v40, c1_i32_17⟩
def k0_off7 (i : grid0.Coords) (k0_t3 : Fin (k0_t3_loop i).trips) (c1_i32_4 : BitVec 32) (c33_i32 : BitVec 32) : Fin 1 → Nat :=
  let arg1 : BitVec 32 := BitVec.ofNat 32 (i 1).val
  let c1_i32_0 : BitVec 32 := 1#32
  let v1 : BitVec 32 := Scalar.andi arg1 c1_i32_0
  let c0_i32_3 : BitVec 32 := 0#32
  let v6 : BitVec 1 := Scalar.cmpi .eq v1 c0_i32_3
  let v7 : BitVec 32 := Scalar.select v6 c1_i32_4 c33_i32
  let c129_i32 : BitVec 32 := 129#32
  let c0_i32_14 : BitVec 32 := 0#32
  let c0_i32_8 : BitVec 32 := 0#32
  let v22 : BitVec 1 := Scalar.cmpi .eq v1 c0_i32_8
  let c16_i32 : BitVec 32 := 16#32
  let c32_i32 : BitVec 32 := 32#32
  let v23 : BitVec 32 := Scalar.select v22 c16_i32 c32_i32
  let c2_i32 : BitVec 32 := 2#32
  let v34 : BitVec 32 := Scalar.muli v23 c2_i32
  let v35 : BitVec 32 := Scalar.addi c0_i32_14 v34
  let c0_i32_15 : BitVec 32 := 0#32
  let c1_i32_17 : BitVec 32 := 1#32
  let arg6 : BitVec 32 := Scf.iv c0_i32_15 c1_i32_17 k0_t3
  let c2_i32_59 : BitVec 32 := 2#32
  let v145 : BitVec 32 := Scalar.muli arg6 c2_i32_59
  let v146 : BitVec 32 := Scalar.addi v35 v145
  let v147 : BitVec 32 := Scalar.muli c129_i32 v146
  let v148 : BitVec 32 := Scalar.addi v7 v147
  let v149 : Index := Scalar.indexCast v148
  ![v149.toNat]
def k0_off7_at (r : Fin 2) : BitVec 32 × BitVec 32 :=
  if r.val < 1 then
    (1#32, 33#32)
  else
    (17#32, 49#32)
def k0_off8 (i : grid0.Coords) (k0_t3 : Fin (k0_t3_loop i).trips) (c1_i32_4 : BitVec 32) (c33_i32 : BitVec 32) : Fin 1 → Nat :=
  let arg1 : BitVec 32 := BitVec.ofNat 32 (i 1).val
  let c1_i32_0 : BitVec 32 := 1#32
  let v1 : BitVec 32 := Scalar.andi arg1 c1_i32_0
  let c0_i32_3 : BitVec 32 := 0#32
  let v6 : BitVec 1 := Scalar.cmpi .eq v1 c0_i32_3
  let v7 : BitVec 32 := Scalar.select v6 c1_i32_4 c33_i32
  let c129_i32 : BitVec 32 := 129#32
  let c0_i32_14 : BitVec 32 := 0#32
  let c0_i32_8 : BitVec 32 := 0#32
  let v22 : BitVec 1 := Scalar.cmpi .eq v1 c0_i32_8
  let c16_i32 : BitVec 32 := 16#32
  let c32_i32 : BitVec 32 := 32#32
  let v23 : BitVec 32 := Scalar.select v22 c16_i32 c32_i32
  let c2_i32 : BitVec 32 := 2#32
  let v34 : BitVec 32 := Scalar.muli v23 c2_i32
  let v35 : BitVec 32 := Scalar.addi c0_i32_14 v34
  let c0_i32_15 : BitVec 32 := 0#32
  let c1_i32_17 : BitVec 32 := 1#32
  let arg6 : BitVec 32 := Scf.iv c0_i32_15 c1_i32_17 k0_t3
  let c2_i32_59 : BitVec 32 := 2#32
  let v145 : BitVec 32 := Scalar.muli arg6 c2_i32_59
  let v146 : BitVec 32 := Scalar.addi v35 v145
  let v147 : BitVec 32 := Scalar.muli c129_i32 v146
  let v148 : BitVec 32 := Scalar.addi v7 v147
  let c129_i32_60 : BitVec 32 := 129#32
  let v154 : BitVec 32 := Scalar.addi v148 c129_i32_60
  let v155 : Index := Scalar.indexCast v154
  ![v155.toNat]
def k0_off8_at (r : Fin 2) : BitVec 32 × BitVec 32 :=
  if r.val < 1 then
    (1#32, 33#32)
  else
    (17#32, 49#32)
@[reducible] def k0_t4_loop (i : grid0.Coords) : Scf.Loop 32 :=
  let c0_i32_15 : BitVec 32 := 0#32
  let arg1 : BitVec 32 := BitVec.ofNat 32 (i 1).val
  let c1_i32_0 : BitVec 32 := 1#32
  let v1 : BitVec 32 := Scalar.andi arg1 c1_i32_0
  let c0_i32_9 : BitVec 32 := 0#32
  let v24 : BitVec 1 := Scalar.cmpi .eq v1 c0_i32_9
  let c40_i32 : BitVec 32 := 40#32
  let c8_i32 : BitVec 32 := 8#32
  let v25 : BitVec 32 := Scalar.select v24 c40_i32 c8_i32
  let v36 : BitVec 32 := Scalar.subi v25 c0_i32_15
  let c1_i32_16 : BitVec 32 := 1#32
  let v38 : BitVec 32 := Scalar.divsi v36 c1_i32_16
  let v39 : BitVec 32 := Scalar.muli v38 c1_i32_16
  let v40 : BitVec 32 := Scalar.addi c0_i32_15 v39
  let v37 : BitVec 32 := Scalar.addi c0_i32_15 v36
  let c1_i32_18 : BitVec 32 := 1#32
  ⟨v40, v37, c1_i32_18⟩
def k0_off9 (i : grid0.Coords) (k0_t4 : Fin (k0_t4_loop i).trips) (c1_i32_4 : BitVec 32) (c33_i32 : BitVec 32) : Fin 1 → Nat :=
  let arg1 : BitVec 32 := BitVec.ofNat 32 (i 1).val
  let c1_i32_0 : BitVec 32 := 1#32
  let v1 : BitVec 32 := Scalar.andi arg1 c1_i32_0
  let c0_i32_3 : BitVec 32 := 0#32
  let v6 : BitVec 1 := Scalar.cmpi .eq v1 c0_i32_3
  let v7 : BitVec 32 := Scalar.select v6 c1_i32_4 c33_i32
  let c129_i32 : BitVec 32 := 129#32
  let c0_i32_14 : BitVec 32 := 0#32
  let c0_i32_8 : BitVec 32 := 0#32
  let v22 : BitVec 1 := Scalar.cmpi .eq v1 c0_i32_8
  let c16_i32 : BitVec 32 := 16#32
  let c32_i32 : BitVec 32 := 32#32
  let v23 : BitVec 32 := Scalar.select v22 c16_i32 c32_i32
  let c2_i32 : BitVec 32 := 2#32
  let v34 : BitVec 32 := Scalar.muli v23 c2_i32
  let v35 : BitVec 32 := Scalar.addi c0_i32_14 v34
  let c0_i32_15 : BitVec 32 := 0#32
  let c0_i32_9 : BitVec 32 := 0#32
  let v24 : BitVec 1 := Scalar.cmpi .eq v1 c0_i32_9
  let c40_i32 : BitVec 32 := 40#32
  let c8_i32 : BitVec 32 := 8#32
  let v25 : BitVec 32 := Scalar.select v24 c40_i32 c8_i32
  let v36 : BitVec 32 := Scalar.subi v25 c0_i32_15
  let c1_i32_16 : BitVec 32 := 1#32
  let v38 : BitVec 32 := Scalar.divsi v36 c1_i32_16
  let v39 : BitVec 32 := Scalar.muli v38 c1_i32_16
  let v40 : BitVec 32 := Scalar.addi c0_i32_15 v39
  let c1_i32_18 : BitVec 32 := 1#32
  let arg6 : BitVec 32 := Scf.iv v40 c1_i32_18 k0_t4
  let c2_i32_59 : BitVec 32 := 2#32
  let v145 : BitVec 32 := Scalar.muli arg6 c2_i32_59
  let v146 : BitVec 32 := Scalar.addi v35 v145
  let v147 : BitVec 32 := Scalar.muli c129_i32 v146
  let v148 : BitVec 32 := Scalar.addi v7 v147
  let v149 : Index := Scalar.indexCast v148
  ![v149.toNat]
def k0_off9_at (r : Fin 2) : BitVec 32 × BitVec 32 :=
  if r.val < 1 then
    (1#32, 33#32)
  else
    (17#32, 49#32)
def k0_off10 (i : grid0.Coords) (k0_t4 : Fin (k0_t4_loop i).trips) (c1_i32_4 : BitVec 32) (c33_i32 : BitVec 32) : Fin 1 → Nat :=
  let arg1 : BitVec 32 := BitVec.ofNat 32 (i 1).val
  let c1_i32_0 : BitVec 32 := 1#32
  let v1 : BitVec 32 := Scalar.andi arg1 c1_i32_0
  let c0_i32_3 : BitVec 32 := 0#32
  let v6 : BitVec 1 := Scalar.cmpi .eq v1 c0_i32_3
  let v7 : BitVec 32 := Scalar.select v6 c1_i32_4 c33_i32
  let c129_i32 : BitVec 32 := 129#32
  let c0_i32_14 : BitVec 32 := 0#32
  let c0_i32_8 : BitVec 32 := 0#32
  let v22 : BitVec 1 := Scalar.cmpi .eq v1 c0_i32_8
  let c16_i32 : BitVec 32 := 16#32
  let c32_i32 : BitVec 32 := 32#32
  let v23 : BitVec 32 := Scalar.select v22 c16_i32 c32_i32
  let c2_i32 : BitVec 32 := 2#32
  let v34 : BitVec 32 := Scalar.muli v23 c2_i32
  let v35 : BitVec 32 := Scalar.addi c0_i32_14 v34
  let c0_i32_15 : BitVec 32 := 0#32
  let c0_i32_9 : BitVec 32 := 0#32
  let v24 : BitVec 1 := Scalar.cmpi .eq v1 c0_i32_9
  let c40_i32 : BitVec 32 := 40#32
  let c8_i32 : BitVec 32 := 8#32
  let v25 : BitVec 32 := Scalar.select v24 c40_i32 c8_i32
  let v36 : BitVec 32 := Scalar.subi v25 c0_i32_15
  let c1_i32_16 : BitVec 32 := 1#32
  let v38 : BitVec 32 := Scalar.divsi v36 c1_i32_16
  let v39 : BitVec 32 := Scalar.muli v38 c1_i32_16
  let v40 : BitVec 32 := Scalar.addi c0_i32_15 v39
  let c1_i32_18 : BitVec 32 := 1#32
  let arg6 : BitVec 32 := Scf.iv v40 c1_i32_18 k0_t4
  let c2_i32_59 : BitVec 32 := 2#32
  let v145 : BitVec 32 := Scalar.muli arg6 c2_i32_59
  let v146 : BitVec 32 := Scalar.addi v35 v145
  let v147 : BitVec 32 := Scalar.muli c129_i32 v146
  let v148 : BitVec 32 := Scalar.addi v7 v147
  let c129_i32_60 : BitVec 32 := 129#32
  let v154 : BitVec 32 := Scalar.addi v148 c129_i32_60
  let v155 : Index := Scalar.indexCast v154
  ![v155.toNat]
def k0_off10_at (r : Fin 2) : BitVec 32 × BitVec 32 :=
  if r.val < 1 then
    (1#32, 33#32)
  else
    (17#32, 49#32)
@[reducible] def k0_t5_loop : Scf.Loop 32 :=
  let c0_i32_20 : BitVec 32 := 0#32
  let c8_i32_21 : BitVec 32 := 8#32
  let v45 : BitVec 32 := Scalar.addi c0_i32_20 c8_i32_21
  let c1_i32_22 : BitVec 32 := 1#32
  ⟨c0_i32_20, v45, c1_i32_22⟩
def k0_off11 (i : grid0.Coords) (k0_t5 : Fin k0_t5_loop.trips) : Fin 1 → Nat :=
  let arg1 : BitVec 32 := BitVec.ofNat 32 (i 1).val
  let c1_i32_0 : BitVec 32 := 1#32
  let v1 : BitVec 32 := Scalar.andi arg1 c1_i32_0
  let c0_i32_3 : BitVec 32 := 0#32
  let v6 : BitVec 1 := Scalar.cmpi .eq v1 c0_i32_3
  let c1_i32_4 : BitVec 32 := 1#32
  let c33_i32 : BitVec 32 := 33#32
  let v7 : BitVec 32 := Scalar.select v6 c1_i32_4 c33_i32
  let c129_i32 : BitVec 32 := 129#32
  let c0_i32_14 : BitVec 32 := 0#32
  let c0_i32_8 : BitVec 32 := 0#32
  let v22 : BitVec 1 := Scalar.cmpi .eq v1 c0_i32_8
  let c16_i32 : BitVec 32 := 16#32
  let c32_i32 : BitVec 32 := 32#32
  let v23 : BitVec 32 := Scalar.select v22 c16_i32 c32_i32
  let c2_i32 : BitVec 32 := 2#32
  let v34 : BitVec 32 := Scalar.muli v23 c2_i32
  let v35 : BitVec 32 := Scalar.addi c0_i32_14 v34
  let c0_i32_9 : BitVec 32 := 0#32
  let v24 : BitVec 1 := Scalar.cmpi .eq v1 c0_i32_9
  let c40_i32 : BitVec 32 := 40#32
  let c8_i32 : BitVec 32 := 8#32
  let v25 : BitVec 32 := Scalar.select v24 c40_i32 c8_i32
  let c2_i32_19 : BitVec 32 := 2#32
  let v43 : BitVec 32 := Scalar.muli v25 c2_i32_19
  let v44 : BitVec 32 := Scalar.addi v35 v43
  let c0_i32_20 : BitVec 32 := 0#32
  let c1_i32_22 : BitVec 32 := 1#32
  let arg6 : BitVec 32 := Scf.iv c0_i32_20 c1_i32_22 k0_t5
  let c2_i32_59 : BitVec 32 := 2#32
  let v145 : BitVec 32 := Scalar.muli arg6 c2_i32_59
  let v146 : BitVec 32 := Scalar.addi v44 v145
  let v147 : BitVec 32 := Scalar.muli c129_i32 v146
  let v148 : BitVec 32 := Scalar.addi v7 v147
  let v149 : Index := Scalar.indexCast v148
  ![v149.toNat]
def k0_off12 (i : grid0.Coords) (k0_t5 : Fin k0_t5_loop.trips) : Fin 1 → Nat :=
  let arg1 : BitVec 32 := BitVec.ofNat 32 (i 1).val
  let c1_i32_0 : BitVec 32 := 1#32
  let v1 : BitVec 32 := Scalar.andi arg1 c1_i32_0
  let c0_i32_3 : BitVec 32 := 0#32
  let v6 : BitVec 1 := Scalar.cmpi .eq v1 c0_i32_3
  let c1_i32_4 : BitVec 32 := 1#32
  let c33_i32 : BitVec 32 := 33#32
  let v7 : BitVec 32 := Scalar.select v6 c1_i32_4 c33_i32
  let c129_i32 : BitVec 32 := 129#32
  let c0_i32_14 : BitVec 32 := 0#32
  let c0_i32_8 : BitVec 32 := 0#32
  let v22 : BitVec 1 := Scalar.cmpi .eq v1 c0_i32_8
  let c16_i32 : BitVec 32 := 16#32
  let c32_i32 : BitVec 32 := 32#32
  let v23 : BitVec 32 := Scalar.select v22 c16_i32 c32_i32
  let c2_i32 : BitVec 32 := 2#32
  let v34 : BitVec 32 := Scalar.muli v23 c2_i32
  let v35 : BitVec 32 := Scalar.addi c0_i32_14 v34
  let c0_i32_9 : BitVec 32 := 0#32
  let v24 : BitVec 1 := Scalar.cmpi .eq v1 c0_i32_9
  let c40_i32 : BitVec 32 := 40#32
  let c8_i32 : BitVec 32 := 8#32
  let v25 : BitVec 32 := Scalar.select v24 c40_i32 c8_i32
  let c2_i32_19 : BitVec 32 := 2#32
  let v43 : BitVec 32 := Scalar.muli v25 c2_i32_19
  let v44 : BitVec 32 := Scalar.addi v35 v43
  let c0_i32_20 : BitVec 32 := 0#32
  let c1_i32_22 : BitVec 32 := 1#32
  let arg6 : BitVec 32 := Scf.iv c0_i32_20 c1_i32_22 k0_t5
  let c2_i32_59 : BitVec 32 := 2#32
  let v145 : BitVec 32 := Scalar.muli arg6 c2_i32_59
  let v146 : BitVec 32 := Scalar.addi v44 v145
  let v147 : BitVec 32 := Scalar.muli c129_i32 v146
  let v148 : BitVec 32 := Scalar.addi v7 v147
  let c129_i32_62 : BitVec 32 := 129#32
  let v160 : BitVec 32 := Scalar.addi v148 c129_i32_62
  let v162 : Index := Scalar.indexCast v160
  ![v162.toNat]
@[reducible] def k0_t6_loop : Scf.Loop 32 :=
  let c0_i32_44 : BitVec 32 := 0#32
  let c10_i32 : BitVec 32 := 10#32
  let v108 : BitVec 32 := Scalar.addi c0_i32_44 c10_i32
  let c1_i32_45 : BitVec 32 := 1#32
  ⟨c0_i32_44, v108, c1_i32_45⟩
def k0_off13 (i : grid0.Coords) : Fin 2 → Nat :=
  let arg1 : BitVec 32 := BitVec.ofNat 32 (i 1).val
  let c0_i32_59_r2 : BitVec 32 := 0#32
  ![arg1.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "count" => some ((1008⁻¹ : ℝ) : EReal)
  | "fifth" => some ((5⁻¹ : ℝ) : EReal)
  | _ => none
-- ==== ExactRoot.lean ====
abbrev S8x128x128 : Shape := ⟨3, ![8, 128, 128]⟩
abbrev S8x16384 : Shape := ⟨2, ![8, 16384]⟩
abbrev S16x16 : Shape := ⟨2, ![16, 16]⟩
abbrev S16448 : Shape := ⟨1, ![16448]⟩
abbrev S16 : Shape := ⟨1, ![16]⟩
abbrev S_ : Shape := ⟨0, ![]⟩
abbrev S12160 : Shape := ⟨1, ![12160]⟩
abbrev S1x12160 : Shape := ⟨2, ![1, 12160]⟩
abbrev S16256 : Shape := ⟨1, ![16256]⟩
abbrev S1x16256 : Shape := ⟨2, ![1, 16256]⟩
abbrev S1x16 : Shape := ⟨2, ![1, 16]⟩

abbrev nBuf : Table → Nat
  | .hbm => 5
  | .local .scVector .vmem => 2
  | _ => 0

abbrev bufTy : (tb : Table) → Fin (nBuf tb) → BufTy
  | .hbm, ⟨0, _⟩ => ⟨S8x128x128, .f32⟩
  | .hbm, ⟨1, _⟩ => ⟨S8x16384, .f32⟩
  | .hbm, ⟨2, _⟩ => ⟨S16x16, .f32⟩
  | .hbm, ⟨3, _⟩ => ⟨S_, .f32⟩
  | .hbm, ⟨4, _⟩ => ⟨S_, .f32⟩
  | .local .scVector .vmem, ⟨0, _⟩ => ⟨S16448, .f32⟩
  | .local .scVector .vmem, ⟨1, _⟩ => ⟨S16, .f32⟩
  | _, _ => ⟨S8x128x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c1_i32_0 : BitVec 32 := 1#32
  let v1 : BitVec 32 := Scalar.andi arg1 c1_i32_0
  let c0_i32 : BitVec 32 := 0#32
  let v2 : BitVec 32 := Scalar.maxsi v1 c0_i32
  let c1_i32_1 : BitVec 32 := 1#32
  let v3 : BitVec 32 := Scalar.minsi v2 c1_i32_1
  let c0_i32_2 : BitVec 32 := 0#32
  let v4 : BitVec 1 := Scalar.cmpi .ne v3 c0_i32_2
  v4

def k0_off1 (i : grid0.Coords) : Fin 2 → Nat :=
  let arg1 : BitVec 32 := BitVec.ofNat 32 (i 1).val
  let c1_i32 : BitVec 32 := 1#32
  let v0 : BitVec 32 := Scalar.shrsi arg1 c1_i32
  let c0_i32_49_r0 : BitVec 32 := 0#32
  ![v0.toNat, 0]
def k0_off2 (i : grid0.Coords) : Fin 2 → Nat :=
  let arg1 : BitVec 32 := BitVec.ofNat 32 (i 1).val
  let c1_i32 : BitVec 32 := 1#32
  let v0 : BitVec 32 := Scalar.shrsi arg1 c1_i32
  let c0_i32_49_r1 : BitVec 32 := 0#32
  ![v0.toNat, 0]
@[reducible] def k0_t1_loop (i : grid0.Coords) : Scf.Loop 32 :=
  let c0_i32_10 : BitVec 32 := 0#32
  let arg1 : BitVec 32 := BitVec.ofNat 32 (i 1).val
  let c1_i32_0 : BitVec 32 := 1#32
  let v1 : BitVec 32 := Scalar.andi arg1 c1_i32_0
  let c0_i32_8 : BitVec 32 := 0#32
  let v22 : BitVec 1 := Scalar.cmpi .eq v1 c0_i32_8
  let c16_i32 : BitVec 32 := 16#32
  let c32_i32 : BitVec 32 := 32#32
  let v23 : BitVec 32 := Scalar.select v22 c16_i32 c32_i32
  let v27 : BitVec 32 := Scalar.subi v23 c0_i32_10
  let c1_i32_11 : BitVec 32 := 1#32
  let v29 : BitVec 32 := Scalar.divsi v27 c1_i32_11
  let v30 : BitVec 32 := Scalar.muli v29 c1_i32_11
  let v31 : BitVec 32 := Scalar.addi c0_i32_10 v30
  let c1_i32_12 : BitVec 32 := 1#32
  ⟨c0_i32_10, v31, c1_i32_12⟩
def k0_off3 (i : grid0.Coords) (k0_t1 : Fin (k0_t1_loop i).trips) (c1_i32_4 : BitVec 32) (c33_i32 : BitVec 32) : Fin 1 → Nat :=
  let arg1 : BitVec 32 := BitVec.ofNat 32 (i 1).val
  let c1_i32_0 : BitVec 32 := 1#32
  let v1 : BitVec 32 := Scalar.andi arg1 c1_i32_0
  let c0_i32_3 : BitVec 32 := 0#32
  let v6 : BitVec 1 := Scalar.cmpi .eq v1 c0_i32_3
  let v7 : BitVec 32 := Scalar.select v6 c1_i32_4 c33_i32
  let c129_i32 : BitVec 32 := 129#32
  let c0_i32_49 : BitVec 32 := 0#32
  let c0_i32_10 : BitVec 32 := 0#32
  let c1_i32_12 : BitVec 32 := 1#32
  let arg6 : BitVec 32 := Scf.iv c0_i32_10 c1_i32_12 k0_t1
  let c2_i32_48 : BitVec 32 := 2#32
  let v131 : BitVec 32 := Scalar.muli arg6 c2_i32_48
  let v132 : BitVec 32 := Scalar.addi c0_i32_49 v131
  let v133 : BitVec 32 := Scalar.muli c129_i32 v132
  let v134 : BitVec 32 := Scalar.addi v7 v133
  let v135 : Index := Scalar.indexCast v134
  ![v135.toNat]
def k0_off3_at (r : Fin 4) : BitVec 32 × BitVec 32 :=
  if r.val < 2 then
    if r.val < 1 then
      (1#32, 33#32)
    else
      (17#32, 49#32)
  else
    if r.val < 3 then
      (97#32, 65#32)
    else
      (113#32, 81#32)
def k0_off4 (i : grid0.Coords) (k0_t1 : Fin (k0_t1_loop i).trips) (c1_i32_4 : BitVec 32) (c33_i32 : BitVec 32) : Fin 1 → Nat :=
  let arg1 : BitVec 32 := BitVec.ofNat 32 (i 1).val
  let c1_i32_0 : BitVec 32 := 1#32
  let v1 : BitVec 32 := Scalar.andi arg1 c1_i32_0
  let c0_i32_3 : BitVec 32 := 0#32
  let v6 : BitVec 1 := Scalar.cmpi .eq v1 c0_i32_3
  let v7 : BitVec 32 := Scalar.select v6 c1_i32_4 c33_i32
  let c129_i32 : BitVec 32 := 129#32
  let c0_i32_49 : BitVec 32 := 0#32
  let c0_i32_10 : BitVec 32 := 0#32
  let c1_i32_12 : BitVec 32 := 1#32
  let arg6 : BitVec 32 := Scf.iv c0_i32_10 c1_i32_12 k0_t1
  let c2_i32_48 : BitVec 32 := 2#32
  let v131 : BitVec 32 := Scalar.muli arg6 c2_i32_48
  let v132 : BitVec 32 := Scalar.addi c0_i32_49 v131
  let v133 : BitVec 32 := Scalar.muli c129_i32 v132
  let v134 : BitVec 32 := Scalar.addi v7 v133
  let c129_i32_50 : BitVec 32 := 129#32
  let v140 : BitVec 32 := Scalar.addi v134 c129_i32_50
  let v141 : Index := Scalar.indexCast v140
  ![v141.toNat]
def k0_off4_at (r : Fin 4) : BitVec 32 × BitVec 32 :=
  if r.val < 2 then
    if r.val < 1 then
      (1#32, 33#32)
    else
      (17#32, 49#32)
  else
    if r.val < 3 then
      (97#32, 65#32)
    else
      (113#32, 81#32)
@[reducible] def k0_t2_loop (i : grid0.Coords) : Scf.Loop 32 :=
  let c0_i32_10 : BitVec 32 := 0#32
  let arg1 : BitVec 32 := BitVec.ofNat 32 (i 1).val
  let c1_i32_0 : BitVec 32 := 1#32
  let v1 : BitVec 32 := Scalar.andi arg1 c1_i32_0
  let c0_i32_8 : BitVec 32 := 0#32
  let v22 : BitVec 1 := Scalar.cmpi .eq v1 c0_i32_8
  let c16_i32 : BitVec 32 := 16#32
  let c32_i32 : BitVec 32 := 32#32
  let v23 : BitVec 32 := Scalar.select v22 c16_i32 c32_i32
  let v27 : BitVec 32 := Scalar.subi v23 c0_i32_10
  let c1_i32_11 : BitVec 32 := 1#32
  let v29 : BitVec 32 := Scalar.divsi v27 c1_i32_11
  let v30 : BitVec 32 := Scalar.muli v29 c1_i32_11
  let v31 : BitVec 32 := Scalar.addi c0_i32_10 v30
  let v28 : BitVec 32 := Scalar.addi c0_i32_10 v27
  let c1_i32_13 : BitVec 32 := 1#32
  ⟨v31, v28, c1_i32_13⟩
def k0_off5 (i : grid0.Coords) (k0_t2 : Fin (k0_t2_loop i).trips) (c1_i32_4 : BitVec 32) (c33_i32 : BitVec 32) : Fin 1 → Nat :=
  let arg1 : BitVec 32 := BitVec.ofNat 32 (i 1).val
  let c1_i32_0 : BitVec 32 := 1#32
  let v1 : BitVec 32 := Scalar.andi arg1 c1_i32_0
  let c0_i32_3 : BitVec 32 := 0#32
  let v6 : BitVec 1 := Scalar.cmpi .eq v1 c0_i32_3
  let v7 : BitVec 32 := Scalar.select v6 c1_i32_4 c33_i32
  let c129_i32 : BitVec 32 := 129#32
  let c0_i32_49 : BitVec 32 := 0#32
  let c0_i32_10 : BitVec 32 := 0#32
  let c0_i32_8 : BitVec 32 := 0#32
  let v22 : BitVec 1 := Scalar.cmpi .eq v1 c0_i32_8
  let c16_i32 : BitVec 32 := 16#32
  let c32_i32 : BitVec 32 := 32#32
  let v23 : BitVec 32 := Scalar.select v22 c16_i32 c32_i32
  let v27 : BitVec 32 := Scalar.subi v23 c0_i32_10
  let c1_i32_11 : BitVec 32 := 1#32
  let v29 : BitVec 32 := Scalar.divsi v27 c1_i32_11
  let v30 : BitVec 32 := Scalar.muli v29 c1_i32_11
  let v31 : BitVec 32 := Scalar.addi c0_i32_10 v30
  let c1_i32_13 : BitVec 32 := 1#32
  let arg6 : BitVec 32 := Scf.iv v31 c1_i32_13 k0_t2
  let c2_i32_48 : BitVec 32 := 2#32
  let v131 : BitVec 32 := Scalar.muli arg6 c2_i32_48
  let v132 : BitVec 32 := Scalar.addi c0_i32_49 v131
  let v133 : BitVec 32 := Scalar.muli c129_i32 v132
  let v134 : BitVec 32 := Scalar.addi v7 v133
  let v135 : Index := Scalar.indexCast v134
  ![v135.toNat]
def k0_off5_at (r : Fin 4) : BitVec 32 × BitVec 32 :=
  if r.val < 2 then
    if r.val < 1 then
      (1#32, 33#32)
    else
      (17#32, 49#32)
  else
    if r.val < 3 then
      (97#32, 65#32)
    else
      (113#32, 81#32)
def k0_off6 (i : grid0.Coords) (k0_t2 : Fin (k0_t2_loop i).trips) (c1_i32_4 : BitVec 32) (c33_i32 : BitVec 32) : Fin 1 → Nat :=
  let arg1 : BitVec 32 := BitVec.ofNat 32 (i 1).val
  let c1_i32_0 : BitVec 32 := 1#32
  let v1 : BitVec 32 := Scalar.andi arg1 c1_i32_0
  let c0_i32_3 : BitVec 32 := 0#32
  let v6 : BitVec 1 := Scalar.cmpi .eq v1 c0_i32_3
  let v7 : BitVec 32 := Scalar.select v6 c1_i32_4 c33_i32
  let c129_i32 : BitVec 32 := 129#32
  let c0_i32_49 : BitVec 32 := 0#32
  let c0_i32_10 : BitVec 32 := 0#32
  let c0_i32_8 : BitVec 32 := 0#32
  let v22 : BitVec 1 := Scalar.cmpi .eq v1 c0_i32_8
  let c16_i32 : BitVec 32 := 16#32
  let c32_i32 : BitVec 32 := 32#32
  let v23 : BitVec 32 := Scalar.select v22 c16_i32 c32_i32
  let v27 : BitVec 32 := Scalar.subi v23 c0_i32_10
  let c1_i32_11 : BitVec 32 := 1#32
  let v29 : BitVec 32 := Scalar.divsi v27 c1_i32_11
  let v30 : BitVec 32 := Scalar.muli v29 c1_i32_11
  let v31 : BitVec 32 := Scalar.addi c0_i32_10 v30
  let c1_i32_13 : BitVec 32 := 1#32
  let arg6 : BitVec 32 := Scf.iv v31 c1_i32_13 k0_t2
  let c2_i32_48 : BitVec 32 := 2#32
  let v131 : BitVec 32 := Scalar.muli arg6 c2_i32_48
  let v132 : BitVec 32 := Scalar.addi c0_i32_49 v131
  let v133 : BitVec 32 := Scalar.muli c129_i32 v132
  let v134 : BitVec 32 := Scalar.addi v7 v133
  let c129_i32_50 : BitVec 32 := 129#32
  let v140 : BitVec 32 := Scalar.addi v134 c129_i32_50
  let v141 : Index := Scalar.indexCast v140
  ![v141.toNat]
def k0_off6_at (r : Fin 4) : BitVec 32 × BitVec 32 :=
  if r.val < 2 then
    if r.val < 1 then
      (1#32, 33#32)
    else
      (17#32, 49#32)
  else
    if r.val < 3 then
      (97#32, 65#32)
    else
      (113#32, 81#32)
@[reducible] def k0_t3_loop (i : grid0.Coords) : Scf.Loop 32 :=
  let c0_i32_15 : BitVec 32 := 0#32
  let arg1 : BitVec 32 := BitVec.ofNat 32 (i 1).val
  let c1_i32_0 : BitVec 32 := 1#32
  let v1 : BitVec 32 := Scalar.andi arg1 c1_i32_0
  let c0_i32_9 : BitVec 32 := 0#32
  let v24 : BitVec 1 := Scalar.cmpi .eq v1 c0_i32_9
  let c40_i32 : BitVec 32 := 40#32
  let c8_i32 : BitVec 32 := 8#32
  let v25 : BitVec 32 := Scalar.select v24 c40_i32 c8_i32
  let v36 : BitVec 32 := Scalar.subi v25 c0_i32_15
  let c1_i32_16 : BitVec 32 := 1#32
  let v38 : BitVec 32 := Scalar.divsi v36 c1_i32_16
  let v39 : BitVec 32 := Scalar.muli v38 c1_i32_16
  let v40 : BitVec 32 := Scalar.addi c0_i32_15 v39
  let c1_i32_17 : BitVec 32 := 1#32
  ⟨c0_i32_15, v40, c1_i32_17⟩
def k0_off7 (i : grid0.Coords) (k0_t3 : Fin (k0_t3_loop i).trips) (c1_i32_4 : BitVec 32) (c33_i32 : BitVec 32) : Fin 1 → Nat :=
  let arg1 : BitVec 32 := BitVec.ofNat 32 (i 1).val
  let c1_i32_0 : BitVec 32 := 1#32
  let v1 : BitVec 32 := Scalar.andi arg1 c1_i32_0
  let c0_i32_3 : BitVec 32 := 0#32
  let v6 : BitVec 1 := Scalar.cmpi .eq v1 c0_i32_3
  let v7 : BitVec 32 := Scalar.select v6 c1_i32_4 c33_i32
  let c129_i32 : BitVec 32 := 129#32
  let c0_i32_14 : BitVec 32 := 0#32
  let c0_i32_8 : BitVec 32 := 0#32
  let v22 : BitVec 1 := Scalar.cmpi .eq v1 c0_i32_8
  let c16_i32 : BitVec 32 := 16#32
  let c32_i32 : BitVec 32 := 32#32
  let v23 : BitVec 32 := Scalar.select v22 c16_i32 c32_i32
  let c2_i32 : BitVec 32 := 2#32
  let v34 : BitVec 32 := Scalar.muli v23 c2_i32
  let v35 : BitVec 32 := Scalar.addi c0_i32_14 v34
  let c0_i32_15 : BitVec 32 := 0#32
  let c1_i32_17 : BitVec 32 := 1#32
  let arg6 : BitVec 32 := Scf.iv c0_i32_15 c1_i32_17 k0_t3
  let c2_i32_48 : BitVec 32 := 2#32
  let v131 : BitVec 32 := Scalar.muli arg6 c2_i32_48
  let v132 : BitVec 32 := Scalar.addi v35 v131
  let v133 : BitVec 32 := Scalar.muli c129_i32 v132
  let v134 : BitVec 32 := Scalar.addi v7 v133
  let v135 : Index := Scalar.indexCast v134
  ![v135.toNat]
def k0_off7_at (r : Fin 2) : BitVec 32 × BitVec 32 :=
  if r.val < 1 then
    (1#32, 33#32)
  else
    (17#32, 49#32)
def k0_off8 (i : grid0.Coords) (k0_t3 : Fin (k0_t3_loop i).trips) (c1_i32_4 : BitVec 32) (c33_i32 : BitVec 32) : Fin 1 → Nat :=
  let arg1 : BitVec 32 := BitVec.ofNat 32 (i 1).val
  let c1_i32_0 : BitVec 32 := 1#32
  let v1 : BitVec 32 := Scalar.andi arg1 c1_i32_0
  let c0_i32_3 : BitVec 32 := 0#32
  let v6 : BitVec 1 := Scalar.cmpi .eq v1 c0_i32_3
  let v7 : BitVec 32 := Scalar.select v6 c1_i32_4 c33_i32
  let c129_i32 : BitVec 32 := 129#32
  let c0_i32_14 : BitVec 32 := 0#32
  let c0_i32_8 : BitVec 32 := 0#32
  let v22 : BitVec 1 := Scalar.cmpi .eq v1 c0_i32_8
  let c16_i32 : BitVec 32 := 16#32
  let c32_i32 : BitVec 32 := 32#32
  let v23 : BitVec 32 := Scalar.select v22 c16_i32 c32_i32
  let c2_i32 : BitVec 32 := 2#32
  let v34 : BitVec 32 := Scalar.muli v23 c2_i32
  let v35 : BitVec 32 := Scalar.addi c0_i32_14 v34
  let c0_i32_15 : BitVec 32 := 0#32
  let c1_i32_17 : BitVec 32 := 1#32
  let arg6 : BitVec 32 := Scf.iv c0_i32_15 c1_i32_17 k0_t3
  let c2_i32_48 : BitVec 32 := 2#32
  let v131 : BitVec 32 := Scalar.muli arg6 c2_i32_48
  let v132 : BitVec 32 := Scalar.addi v35 v131
  let v133 : BitVec 32 := Scalar.muli c129_i32 v132
  let v134 : BitVec 32 := Scalar.addi v7 v133
  let c129_i32_49 : BitVec 32 := 129#32
  let v140 : BitVec 32 := Scalar.addi v134 c129_i32_49
  let v141 : Index := Scalar.indexCast v140
  ![v141.toNat]
def k0_off8_at (r : Fin 2) : BitVec 32 × BitVec 32 :=
  if r.val < 1 then
    (1#32, 33#32)
  else
    (17#32, 49#32)
@[reducible] def k0_t4_loop (i : grid0.Coords) : Scf.Loop 32 :=
  let c0_i32_15 : BitVec 32 := 0#32
  let arg1 : BitVec 32 := BitVec.ofNat 32 (i 1).val
  let c1_i32_0 : BitVec 32 := 1#32
  let v1 : BitVec 32 := Scalar.andi arg1 c1_i32_0
  let c0_i32_9 : BitVec 32 := 0#32
  let v24 : BitVec 1 := Scalar.cmpi .eq v1 c0_i32_9
  let c40_i32 : BitVec 32 := 40#32
  let c8_i32 : BitVec 32 := 8#32
  let v25 : BitVec 32 := Scalar.select v24 c40_i32 c8_i32
  let v36 : BitVec 32 := Scalar.subi v25 c0_i32_15
  let c1_i32_16 : BitVec 32 := 1#32
  let v38 : BitVec 32 := Scalar.divsi v36 c1_i32_16
  let v39 : BitVec 32 := Scalar.muli v38 c1_i32_16
  let v40 : BitVec 32 := Scalar.addi c0_i32_15 v39
  let v37 : BitVec 32 := Scalar.addi c0_i32_15 v36
  let c1_i32_18 : BitVec 32 := 1#32
  ⟨v40, v37, c1_i32_18⟩
def k0_off9 (i : grid0.Coords) (k0_t4 : Fin (k0_t4_loop i).trips) (c1_i32_4 : BitVec 32) (c33_i32 : BitVec 32) : Fin 1 → Nat :=
  let arg1 : BitVec 32 := BitVec.ofNat 32 (i 1).val
  let c1_i32_0 : BitVec 32 := 1#32
  let v1 : BitVec 32 := Scalar.andi arg1 c1_i32_0
  let c0_i32_3 : BitVec 32 := 0#32
  let v6 : BitVec 1 := Scalar.cmpi .eq v1 c0_i32_3
  let v7 : BitVec 32 := Scalar.select v6 c1_i32_4 c33_i32
  let c129_i32 : BitVec 32 := 129#32
  let c0_i32_14 : BitVec 32 := 0#32
  let c0_i32_8 : BitVec 32 := 0#32
  let v22 : BitVec 1 := Scalar.cmpi .eq v1 c0_i32_8
  let c16_i32 : BitVec 32 := 16#32
  let c32_i32 : BitVec 32 := 32#32
  let v23 : BitVec 32 := Scalar.select v22 c16_i32 c32_i32
  let c2_i32 : BitVec 32 := 2#32
  let v34 : BitVec 32 := Scalar.muli v23 c2_i32
  let v35 : BitVec 32 := Scalar.addi c0_i32_14 v34
  let c0_i32_15 : BitVec 32 := 0#32
  let c0_i32_9 : BitVec 32 := 0#32
  let v24 : BitVec 1 := Scalar.cmpi .eq v1 c0_i32_9
  let c40_i32 : BitVec 32 := 40#32
  let c8_i32 : BitVec 32 := 8#32
  let v25 : BitVec 32 := Scalar.select v24 c40_i32 c8_i32
  let v36 : BitVec 32 := Scalar.subi v25 c0_i32_15
  let c1_i32_16 : BitVec 32 := 1#32
  let v38 : BitVec 32 := Scalar.divsi v36 c1_i32_16
  let v39 : BitVec 32 := Scalar.muli v38 c1_i32_16
  let v40 : BitVec 32 := Scalar.addi c0_i32_15 v39
  let c1_i32_18 : BitVec 32 := 1#32
  let arg6 : BitVec 32 := Scf.iv v40 c1_i32_18 k0_t4
  let c2_i32_48 : BitVec 32 := 2#32
  let v131 : BitVec 32 := Scalar.muli arg6 c2_i32_48
  let v132 : BitVec 32 := Scalar.addi v35 v131
  let v133 : BitVec 32 := Scalar.muli c129_i32 v132
  let v134 : BitVec 32 := Scalar.addi v7 v133
  let v135 : Index := Scalar.indexCast v134
  ![v135.toNat]
def k0_off9_at (r : Fin 2) : BitVec 32 × BitVec 32 :=
  if r.val < 1 then
    (1#32, 33#32)
  else
    (17#32, 49#32)
def k0_off10 (i : grid0.Coords) (k0_t4 : Fin (k0_t4_loop i).trips) (c1_i32_4 : BitVec 32) (c33_i32 : BitVec 32) : Fin 1 → Nat :=
  let arg1 : BitVec 32 := BitVec.ofNat 32 (i 1).val
  let c1_i32_0 : BitVec 32 := 1#32
  let v1 : BitVec 32 := Scalar.andi arg1 c1_i32_0
  let c0_i32_3 : BitVec 32 := 0#32
  let v6 : BitVec 1 := Scalar.cmpi .eq v1 c0_i32_3
  let v7 : BitVec 32 := Scalar.select v6 c1_i32_4 c33_i32
  let c129_i32 : BitVec 32 := 129#32
  let c0_i32_14 : BitVec 32 := 0#32
  let c0_i32_8 : BitVec 32 := 0#32
  let v22 : BitVec 1 := Scalar.cmpi .eq v1 c0_i32_8
  let c16_i32 : BitVec 32 := 16#32
  let c32_i32 : BitVec 32 := 32#32
  let v23 : BitVec 32 := Scalar.select v22 c16_i32 c32_i32
  let c2_i32 : BitVec 32 := 2#32
  let v34 : BitVec 32 := Scalar.muli v23 c2_i32
  let v35 : BitVec 32 := Scalar.addi c0_i32_14 v34
  let c0_i32_15 : BitVec 32 := 0#32
  let c0_i32_9 : BitVec 32 := 0#32
  let v24 : BitVec 1 := Scalar.cmpi .eq v1 c0_i32_9
  let c40_i32 : BitVec 32 := 40#32
  let c8_i32 : BitVec 32 := 8#32
  let v25 : BitVec 32 := Scalar.select v24 c40_i32 c8_i32
  let v36 : BitVec 32 := Scalar.subi v25 c0_i32_15
  let c1_i32_16 : BitVec 32 := 1#32
  let v38 : BitVec 32 := Scalar.divsi v36 c1_i32_16
  let v39 : BitVec 32 := Scalar.muli v38 c1_i32_16
  let v40 : BitVec 32 := Scalar.addi c0_i32_15 v39
  let c1_i32_18 : BitVec 32 := 1#32
  let arg6 : BitVec 32 := Scf.iv v40 c1_i32_18 k0_t4
  let c2_i32_48 : BitVec 32 := 2#32
  let v131 : BitVec 32 := Scalar.muli arg6 c2_i32_48
  let v132 : BitVec 32 := Scalar.addi v35 v131
  let v133 : BitVec 32 := Scalar.muli c129_i32 v132
  let v134 : BitVec 32 := Scalar.addi v7 v133
  let c129_i32_49 : BitVec 32 := 129#32
  let v140 : BitVec 32 := Scalar.addi v134 c129_i32_49
  let v141 : Index := Scalar.indexCast v140
  ![v141.toNat]
def k0_off10_at (r : Fin 2) : BitVec 32 × BitVec 32 :=
  if r.val < 1 then
    (1#32, 33#32)
  else
    (17#32, 49#32)
@[reducible] def k0_t5_loop : Scf.Loop 32 :=
  let c0_i32_20 : BitVec 32 := 0#32
  let c8_i32_21 : BitVec 32 := 8#32
  let v45 : BitVec 32 := Scalar.addi c0_i32_20 c8_i32_21
  let c1_i32_22 : BitVec 32 := 1#32
  ⟨c0_i32_20, v45, c1_i32_22⟩
def k0_off11 (i : grid0.Coords) (k0_t5 : Fin k0_t5_loop.trips) : Fin 1 → Nat :=
  let arg1 : BitVec 32 := BitVec.ofNat 32 (i 1).val
  let c1_i32_0 : BitVec 32 := 1#32
  let v1 : BitVec 32 := Scalar.andi arg1 c1_i32_0
  let c0_i32_3 : BitVec 32 := 0#32
  let v6 : BitVec 1 := Scalar.cmpi .eq v1 c0_i32_3
  let c1_i32_4 : BitVec 32 := 1#32
  let c33_i32 : BitVec 32 := 33#32
  let v7 : BitVec 32 := Scalar.select v6 c1_i32_4 c33_i32
  let c129_i32 : BitVec 32 := 129#32
  let c0_i32_14 : BitVec 32 := 0#32
  let c0_i32_8 : BitVec 32 := 0#32
  let v22 : BitVec 1 := Scalar.cmpi .eq v1 c0_i32_8
  let c16_i32 : BitVec 32 := 16#32
  let c32_i32 : BitVec 32 := 32#32
  let v23 : BitVec 32 := Scalar.select v22 c16_i32 c32_i32
  let c2_i32 : BitVec 32 := 2#32
  let v34 : BitVec 32 := Scalar.muli v23 c2_i32
  let v35 : BitVec 32 := Scalar.addi c0_i32_14 v34
  let c0_i32_9 : BitVec 32 := 0#32
  let v24 : BitVec 1 := Scalar.cmpi .eq v1 c0_i32_9
  let c40_i32 : BitVec 32 := 40#32
  let c8_i32 : BitVec 32 := 8#32
  let v25 : BitVec 32 := Scalar.select v24 c40_i32 c8_i32
  let c2_i32_19 : BitVec 32 := 2#32
  let v43 : BitVec 32 := Scalar.muli v25 c2_i32_19
  let v44 : BitVec 32 := Scalar.addi v35 v43
  let c0_i32_20 : BitVec 32 := 0#32
  let c1_i32_22 : BitVec 32 := 1#32
  let arg6 : BitVec 32 := Scf.iv c0_i32_20 c1_i32_22 k0_t5
  let c2_i32_48 : BitVec 32 := 2#32
  let v131 : BitVec 32 := Scalar.muli arg6 c2_i32_48
  let v132 : BitVec 32 := Scalar.addi v44 v131
  let v133 : BitVec 32 := Scalar.muli c129_i32 v132
  let v134 : BitVec 32 := Scalar.addi v7 v133
  let v135 : Index := Scalar.indexCast v134
  ![v135.toNat]
def k0_off12 (i : grid0.Coords) (k0_t5 : Fin k0_t5_loop.trips) : Fin 1 → Nat :=
  let arg1 : BitVec 32 := BitVec.ofNat 32 (i 1).val
  let c1_i32_0 : BitVec 32 := 1#32
  let v1 : BitVec 32 := Scalar.andi arg1 c1_i32_0
  let c0_i32_3 : BitVec 32 := 0#32
  let v6 : BitVec 1 := Scalar.cmpi .eq v1 c0_i32_3
  let c1_i32_4 : BitVec 32 := 1#32
  let c33_i32 : BitVec 32 := 33#32
  let v7 : BitVec 32 := Scalar.select v6 c1_i32_4 c33_i32
  let c129_i32 : BitVec 32 := 129#32
  let c0_i32_14 : BitVec 32 := 0#32
  let c0_i32_8 : BitVec 32 := 0#32
  let v22 : BitVec 1 := Scalar.cmpi .eq v1 c0_i32_8
  let c16_i32 : BitVec 32 := 16#32
  let c32_i32 : BitVec 32 := 32#32
  let v23 : BitVec 32 := Scalar.select v22 c16_i32 c32_i32
  let c2_i32 : BitVec 32 := 2#32
  let v34 : BitVec 32 := Scalar.muli v23 c2_i32
  let v35 : BitVec 32 := Scalar.addi c0_i32_14 v34
  let c0_i32_9 : BitVec 32 := 0#32
  let v24 : BitVec 1 := Scalar.cmpi .eq v1 c0_i32_9
  let c40_i32 : BitVec 32 := 40#32
  let c8_i32 : BitVec 32 := 8#32
  let v25 : BitVec 32 := Scalar.select v24 c40_i32 c8_i32
  let c2_i32_19 : BitVec 32 := 2#32
  let v43 : BitVec 32 := Scalar.muli v25 c2_i32_19
  let v44 : BitVec 32 := Scalar.addi v35 v43
  let c0_i32_20 : BitVec 32 := 0#32
  let c1_i32_22 : BitVec 32 := 1#32
  let arg6 : BitVec 32 := Scf.iv c0_i32_20 c1_i32_22 k0_t5
  let c2_i32_48 : BitVec 32 := 2#32
  let v131 : BitVec 32 := Scalar.muli arg6 c2_i32_48
  let v132 : BitVec 32 := Scalar.addi v44 v131
  let v133 : BitVec 32 := Scalar.muli c129_i32 v132
  let v134 : BitVec 32 := Scalar.addi v7 v133
  let c129_i32_51 : BitVec 32 := 129#32
  let v146 : BitVec 32 := Scalar.addi v134 c129_i32_51
  let v148 : Index := Scalar.indexCast v146
  ![v148.toNat]
def k0_off13 (i : grid0.Coords) : Fin 2 → Nat :=
  let arg1 : BitVec 32 := BitVec.ofNat 32 (i 1).val
  let c0_i32_48_r2 : BitVec 32 := 0#32
  ![arg1.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ExactRootIdeal.lean ====
variable {F : FTy → Type} [FloatOps F] [Named F]
def κ : String → Option EReal := fun
  | "count" => some ((1008⁻¹ : ℝ) : EReal)
  | "fifth" => some ((5⁻¹ : ℝ) : EReal)
  | _ => none
-- ==== ReferenceIdeal.lean ====
abbrev S8x128x128 : Shape := ⟨3, ![8, 128, 128]⟩
abbrev S126x128x128 : Shape := ⟨3, ![126, 128, 128]⟩
abbrev S_ : Shape := ⟨0, ![]⟩
abbrev S126 : Shape := ⟨1, ![126]⟩
abbrev S8x1x128x128 : Shape := ⟨4, ![8, 1, 128, 128]⟩
abbrev S1x126x1x1 : Shape := ⟨4, ![1, 126, 1, 1]⟩
abbrev S8x126x128x128 : Shape := ⟨4, ![8, 126, 128, 128]⟩
abbrev S8x126 : Shape := ⟨2, ![8, 126]⟩
abbrev S1x126 : Shape := ⟨2, ![1, 126]⟩
abbrev S8x126x1x1 : Shape := ⟨4, ![8, 126, 1, 1]⟩
abbrev S8 : Shape := ⟨1, ![8]⟩

abbrev nBuf : Space → Nat
  | .hbm => 59
  | .vmem => 0
  | .smem => 0
  | _ => 0

abbrev bufTy : (tb : Table) → Fin (tcTables nBuf tb) → BufTy
  | .hbm, ⟨0, _⟩ => ⟨S8x128x128, .f32⟩
  | .hbm, ⟨1, _⟩ => ⟨S126x128x128, .i32⟩
  | .hbm, ⟨2, _⟩ => ⟨S126x128x128, .i32⟩
  | .hbm, ⟨3, _⟩ => ⟨S126x128x128, .i32⟩
  | .hbm, ⟨4, _⟩ => ⟨S_, .i32⟩
  | .hbm, ⟨5, _⟩ => ⟨S126x128x128, .i32⟩
  | .hbm, ⟨6, _⟩ => ⟨S126x128x128, .i32⟩
  | .hbm, ⟨7, _⟩ => ⟨S126x128x128, .i32⟩
  | .hbm, ⟨8, _⟩ => ⟨S126x128x128, .i1⟩
  | .hbm, ⟨9, _⟩ => ⟨S126, .i32⟩
  | .hbm, ⟨10, _⟩ => ⟨S_, .i32⟩
  | .hbm, ⟨11, _⟩ => ⟨S126, .i32⟩
  | .hbm, ⟨12, _⟩ => ⟨S126, .i32⟩
  | .hbm, ⟨13, _⟩ => ⟨S126, .f32⟩
  | .hbm, ⟨14, _⟩ => ⟨S8x1x128x128, .f32⟩
  | .hbm, ⟨15, _⟩ => ⟨S1x126x1x1, .f32⟩
  | .hbm, ⟨16, _⟩ => ⟨S8x126x128x128, .f32⟩
  | .hbm, ⟨17, _⟩ => ⟨S8x126x128x128, .f32⟩
  | .hbm, ⟨18, _⟩ => ⟨S8x126x128x128, .f32⟩
  | .hbm, ⟨19, _⟩ => ⟨S_, .f32⟩
  | .hbm, ⟨20, _⟩ => ⟨S8x126x128x128, .f32⟩
  | .hbm, ⟨21, _⟩ => ⟨S8x126x128x128, .f32⟩
  | .hbm, ⟨22, _⟩ => ⟨S_, .f32⟩
  | .hbm, ⟨23, _⟩ => ⟨S_, .f32⟩
  | .hbm, ⟨24, _⟩ => ⟨S8x126x128x128, .i1⟩
  | .hbm, ⟨25, _⟩ => ⟨S8x126x128x128, .f32⟩
  | .hbm, ⟨26, _⟩ => ⟨S8x126x128x128, .f32⟩
  | .hbm, ⟨27, _⟩ => ⟨S_, .f32⟩
  | .hbm, ⟨28, _⟩ => ⟨S8x126, .f32⟩
  | .hbm, ⟨29, _⟩ => ⟨S1x126, .f32⟩
  | .hbm, ⟨30, _⟩ => ⟨S8x126, .f32⟩
  | .hbm, ⟨31, _⟩ => ⟨S8x126, .f32⟩
  | .hbm, ⟨32, _⟩ => ⟨S8x126x1x1, .f32⟩
  | .hbm, ⟨33, _⟩ => ⟨S8x126x128x128, .f32⟩
  | .hbm, ⟨34, _⟩ => ⟨S8x126x128x128, .f32⟩
  | .hbm, ⟨35, _⟩ => ⟨S_, .f32⟩
  | .hbm, ⟨36, _⟩ => ⟨S_, .f32⟩
  | .hbm, ⟨37, _⟩ => ⟨S8x126x128x128, .i1⟩
  | .hbm, ⟨38, _⟩ => ⟨S8x126x128x128, .f32⟩
  | .hbm, ⟨39, _⟩ => ⟨S8x126x128x128, .f32⟩
  | .hbm, ⟨40, _⟩ => ⟨S8x126x128x128, .f32⟩
  | .hbm, ⟨41, _⟩ => ⟨S_, .f32⟩
  | .hbm, ⟨42, _⟩ => ⟨S8x126, .f32⟩
  | .hbm, ⟨43, _⟩ => ⟨S_, .f32⟩
  | .hbm, ⟨44, _⟩ => ⟨S126, .f32⟩
  | .hbm, ⟨45, _⟩ => ⟨S126, .f32⟩
  | .hbm, ⟨46, _⟩ => ⟨S1x126, .f32⟩
  | .hbm, ⟨47, _⟩ => ⟨S8x126, .f32⟩
  | .hbm, ⟨48, _⟩ => ⟨S8x126, .f32⟩
  | .hbm, ⟨49, _⟩ => ⟨S8x126, .f32⟩
  | .hbm, ⟨50, _⟩ => ⟨S_, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩

abbrev nD : Nat := 1
abbrev τ : Topo := Topo.v7x

variable {F : FTy → Type} [FloatOps F]
-- ==== Proof.Sums.lean ====
/-
  What one tile of `KernelIdeal` computes, as functions of the array that the call reads: the sixteen lanes' running sums
  along sixteen neighbouring diagonals of one 128 × 128 matrix, and the words, offsets and trip counts of the body's five
  loops in closed form.
-/
module

public import proofs.«01_k».proof.Defs
public import proofs.«01_k».proof.Proof.Gen.KernelIdeal
public import proofs.«01_k».proof.Proof.Gen.KernelIdeal.Skeleton

@[expose] public section

set_option maxRecDepth 16384

noncomputable section

namespace Cert.Proof.Diag

open Cert.KernelIdeal Cert.KernelIdeal.Gen
open Idealize.ShloMosaic

/-! ## The tile's constants -/

/-- Which half of the diagonals a tile takes: the low bit of its number. -/
abbrev half (i : grid0.Coords) : ℕ := (i 1).val % 2
/-- The matrix a tile reads: two tiles share each. -/
abbrev bat (i : grid0.Coords) : ℕ := (i 1).val / 2

/-- The first diagonal of the tile's chunk `k` of sixteen. -/
def d0 (h : ℕ) (k : Fin 4) : ℕ := if h = 0 then ![1, 17, 97, 113] k else ![33, 49, 65, 81] k
/-- Trips of the loop over four chunks, of the loop over two, and of the loop over one. -/
def n0 (h : ℕ) : ℕ := if h = 0 then 16 else 32
def n1 (h : ℕ) : ℕ := if h = 0 then 40 else 8

theorem trips1 : ∀ i : grid0.Coords, (k0_t1_loop i).trips = n0 (half i) := by decide +kernel
theorem trips2 : ∀ i : grid0.Coords, (k0_t2_loop i).trips = 0 := by decide +kernel
theorem trips3 : ∀ i : grid0.Coords, (k0_t3_loop i).trips = n1 (half i) := by decide +kernel
theorem trips4 : ∀ i : grid0.Coords, (k0_t4_loop i).trips = 0 := by decide +kernel
theorem trips5 : k0_t5_loop.trips = 8 := by decide +kernel
theorem trips6 : k0_t6_loop.trips = 10 := by decide +kernel

/-! ## The loads' offsets: row `r`'s window of chunk `k` starts at word `129 * r + d0 h k` -/

theorem off1_eq : ∀ i : grid0.Coords, k0_off1 i = ![bat i, 0] := by decide +kernel
theorem off2_eq : ∀ i : grid0.Coords, k0_off2 i = ![bat i, 0] := by decide +kernel
theorem off3_eq : ∀ (i : grid0.Coords) (t : Fin (k0_t1_loop i).trips) (r : Fin 4),
    k0_off3 i t (k0_off3_at r).1 (k0_off3_at r).2 = ![129 * (2 * t.val) + d0 (half i) r] := by decide +kernel
theorem off4_eq : ∀ (i : grid0.Coords) (t : Fin (k0_t1_loop i).trips) (r : Fin 4),
    k0_off4 i t (k0_off4_at r).1 (k0_off4_at r).2 = ![129 * (2 * t.val + 1) + d0 (half i) r] := by decide +kernel
theorem off7_eq : ∀ (i : grid0.Coords) (t : Fin (k0_t3_loop i).trips) (r : Fin 2),
    k0_off7 i t (k0_off7_at r).1 (k0_off7_at r).2 = ![129 * (2 * n0 (half i) + 2 * t.val) + d0 (half i) ⟨r.val, by omega⟩] := by decide +kernel
theorem off8_eq : ∀ (i : grid0.Coords) (t : Fin (k0_t3_loop i).trips) (r : Fin 2),
    k0_off8 i t (k0_off8_at r).1 (k0_off8_at r).2 = ![129 * (2 * n0 (half i) + 2 * t.val + 1) + d0 (half i) ⟨r.val, by omega⟩] := by decide +kernel
theorem off11_eq : ∀ (i : grid0.Coords) (t : Fin k0_t5_loop.trips),
    k0_off11 i t = ![129 * (2 * n0 (half i) + 2 * n1 (half i) + 2 * t.val) + d0 (half i) 0] := by decide +kernel
theorem off12_eq : ∀ (i : grid0.Coords) (t : Fin k0_t5_loop.trips),
    k0_off12 i t = ![129 * (2 * n0 (half i) + 2 * n1 (half i) + 2 * t.val + 1) + d0 (half i) 0] := by decide +kernel

/-! ## The lanes' diagonals -/

theorem dv0 : ∀ (i : grid0.Coords) (l : S16.Idx), k0_pay17 i l = BitVec.ofNat 32 (d0 (half i) 0 + (l 0).val) := by decide +kernel
theorem dv1 : ∀ (i : grid0.Coords) (l : S16.Idx), k0_pay18 i l = BitVec.ofNat 32 (d0 (half i) 1 + (l 0).val) := by decide +kernel
theorem dv2 : ∀ (i : grid0.Coords) (l : S16.Idx), k0_pay19 i l = BitVec.ofNat 32 (d0 (half i) 2 + (l 0).val) := by decide +kernel
theorem dv3 : ∀ (i : grid0.Coords) (l : S16.Idx), k0_pay20 i l = BitVec.ofNat 32 (d0 (half i) 3 + (l 0).val) := by decide +kernel

/-! ## The running sums -/

section Values

variable {F : FTy → Type} [FloatOps F] [Named F]

/-- Word `p` of matrix `b` (zero outside the array). -/
def ent (X : S8x16384.Idx → F .f32) (b p : ℕ) : F .f32 :=
  if h : b < 8 ∧ p < 16384 then X (fun | 0 => ⟨b, h.1⟩ | 1 => ⟨p, h.2⟩) else Scalar.ofBits .f32 0x00000000#32

/-- Row `r`'s elements of the diagonals `d, …, d + 15` of matrix `b`, a lane each: zero where a diagonal has left the matrix. -/
def rowv (X : S8x16384.Idx → F .f32) (b d r : ℕ) : FVec F S16 .f32 := fun l =>
  if d + (l 0).val + r < 128 then ent X b (129 * r + d + (l 0).val) else Scalar.ofBits .f32 0x00000000#32

/-- The sums of the first `n` rows, and of their squares. -/
def sumv (X : S8x16384.Idx → F .f32) (b d : ℕ) : ℕ → FVec F S16 .f32
  | 0 => k0_pay21
  | n + 1 => addf (sumv X b d n) (rowv X b d n)
def sqv (X : S8x16384.Idx → F .f32) (b d : ℕ) : ℕ → FVec F S16 .f32
  | 0 => k0_pay21
  | n + 1 => addf (sqv X b d n) (mulf (rowv X b d n) (rowv X b d n))

/-- Newton's steps for the root of `v`, from `(v + 1) / 2`. -/
def newton (v : FVec F S16 .f32) : ℕ → FVec F S16 .f32
  | 0 => k0_pay61 v
  | t + 1 => k0_pay65 v (newton v t)

/-- The variances of the tile's four groups of diagonals, a lane each. -/
def var0 (X : S8x16384.Idx → F .f32) (i : grid0.Coords) : FVec F S16 .f32 :=
  k0_pay56 (k0_pay17 i) (sumv X (bat i) (d0 (half i) 0) (2 * n0 (half i) + 2 * n1 (half i) + 16)) (sqv X (bat i) (d0 (half i) 0) (2 * n0 (half i) + 2 * n1 (half i) + 16))
def var1 (X : S8x16384.Idx → F .f32) (i : grid0.Coords) : FVec F S16 .f32 :=
  k0_pay58 (k0_pay53 (F := F) (k0_pay18 i))
    (k0_pay57 (k0_pay18 i) (sumv X (bat i) (d0 (half i) 1) (2 * n0 (half i) + 2 * n1 (half i))) (sqv X (bat i) (d0 (half i) 1) (2 * n0 (half i) + 2 * n1 (half i))))
def var2 (X : S8x16384.Idx → F .f32) (i : grid0.Coords) : FVec F S16 .f32 :=
  k0_pay59 (sumv X (bat i) (d0 (half i) 2) (2 * n0 (half i))) (sqv X (bat i) (d0 (half i) 2) (2 * n0 (half i))) (k0_pay54 (F := F) (k0_pay19 i))
def var3 (X : S8x16384.Idx → F .f32) (i : grid0.Coords) : FVec F S16 .f32 :=
  k0_pay60 (sumv X (bat i) (d0 (half i) 3) (2 * n0 (half i))) (sqv X (bat i) (d0 (half i) 3) (2 * n0 (half i))) (k0_pay55 (F := F) (k0_pay20 i))

/-- The sixteen words that the tile at `i` leaves in its row of the result. -/
def tileVec (X : S8x16384.Idx → F .f32) (i : grid0.Coords) : FVec F S16 .f32 :=
  k0_pay70 (k0_pay18 i) (k0_pay19 i) (k0_pay20 i) (k0_pay21 (F := F)) (k0_pay52 (F := F) (k0_pay17 i)) (k0_pay53 (F := F) (k0_pay18 i))
    (k0_pay54 (F := F) (k0_pay19 i)) (k0_pay55 (F := F) (k0_pay20 i))
    (newton (var0 X i) 10) (newton (var1 X i) 10) (newton (var2 X i) 10) (newton (var3 X i) 10) (k0_pay69 (k0_pay17 i))

/-- The grid point of tile `s` of the one SparseCore. -/
def coordsV (c : Fin (grid0.bound 0)) (s : Fin (grid0.bound 1)) : grid0.Coords :=
  fun | 0 => c | 1 => s | ⟨_ + 2, h⟩ => absurd h (Nat.not_lt.2 (Nat.le_add_left _ _))

/-- The call's result: row `s` is tile `s`'s. -/
def outv (X : S8x16384.Idx → F .f32) : S16x16.Idx → F .f32 := fun j => tileVec X (coordsV ⟨0, Nat.one_pos⟩ ⟨(j 0).val, (j 0).isLt⟩) (fun | 0 => ⟨(j 1).val, (j 1).isLt⟩)

/-- A load under its mask is the row. -/
theorem select_row (v : IVec S16 32) (w : BitVec 32) (x : Vec F S16 .f32) (X : S8x16384.Idx → F .f32) (b d r : ℕ)
    (hv : ∀ l, v l = BitVec.ofNat 32 (d + (l 0).val)) (hw : w = BitVec.ofNat 32 r) (hd : d + r < 1000)
    (hx : ∀ l : S16.Idx, d + (l 0).val + r < 128 → x l = ent X b (129 * r + d + (l 0).val)) :
    select (cmpi .slt (addi v (broadcast S16 w)) (broadcast S16 128#32)) x (broadcast S16 (Scalar.ofBits .f32 0x00000000#32))
      = rowv X b d r := by
  funext l
  have hl : (l 0).val < 16 := (l 0).isLt
  have hb : (BitVec.ofNat 32 (d + (l 0).val) + BitVec.ofNat 32 r : BitVec 32) = BitVec.ofNat 32 (d + (l 0).val + r) := by
    rw [← BitVec.ofNat_add]
  have hc : IntOp.cmpi .slt (BitVec.ofNat 32 (d + (l 0).val + r)) 128#32 = if d + (l 0).val + r < 128 then 1#1 else 0#1 := by
    have : (BitVec.ofNat 32 (d + (l 0).val + r)).toInt = ((d + (l 0).val + r : ℕ) : ℤ) := by
      rw [BitVec.toInt_eq_toNat_of_lt (by rw [BitVec.toNat_ofNat]; omega), BitVec.toNat_ofNat, Nat.mod_eq_of_lt (by omega)]
    have h128 : (128#32).toInt = 128 := by decide
    simp only [IntOp.cmpi, BitVec.slt, this, h128]
    by_cases h : d + (l 0).val + r < 128
    · rw [if_pos h, decide_eq_true (by exact_mod_cast h)]; rfl
    · rw [if_neg h, decide_eq_false (by exact_mod_cast h)]; rfl
  show Scalar.select (IntOp.cmpi .slt (v l + w) 128#32) (x l) _ = _
  rw [hv, hw, hb, hc]
  unfold rowv
  by_cases h : d + (l 0).val + r < 128
  · rw [if_pos h, if_pos h]; exact (hx l h)
  · rw [if_neg h, if_neg h]; rfl

end Values

end Cert.Proof.Diag

end
-- ==== Proof.Launch.lean ====
/-
  The launch of `KernelIdeal`'s one SparseCore call: the program as the launch theorem sees it, the arrays the call reads and
  writes, and what the handshakes carry. Every tile reads the whole operand through a share of its own and takes its row of
  the result; it hands back the row at the tile's sums.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Sums

@[expose] public section

set_option maxRecDepth 16384

noncomputable section

namespace Cert.Proof.Diag

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The argument, the operand of the call (the argument with each matrix flat), the call's result, and the program's. -/
abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

theorem hdiv : 16 ∣ S16x16.size 0 := ⟨1, rfl⟩
/-- Row `s` of the result: tile `s`'s. -/
abbrev row (s : Fin 16) : Rect S16x16 := Rect.part (s := S16x16) (a₀ := 0) hdiv s
abbrev rowSet (s : Fin 16) : Finset S16x16.Idx := ((View.whole (main_v1_scv : Ref sig .scVector)).slice (row s)).set

/-- The call's operand. -/
def X (d : Dev nD) : S8x16384.Idx → F .f32 := shapeCast S8x16384 (m (aLoc d) : S8x128x128.Idx → F .f32) shapeCasts_S8x128x128_S8x16384
/-- The call's result. -/
def O (d : Dev nD) : S16x16.Idx → F .f32 := outv (X m d)

/-- Tile `s`'s share of the operand, and what is left of it. -/
abbrev xq (s : Fin 16) : PosShare TreeShare := Transfers.shareTok fullShare 16 s
abbrev xRest : PosShare TreeShare := Transfers.shareDrop fullShare 16

abbrev xPts (d : Dev nD) : sProp 𝕄 := xLoc d ↦{fullShare} X m d
abbrev xTok (d : Dev nD) (s : Fin 16) : sProp 𝕄 := xLoc d ↦{xq s} X m d
abbrev oPts (d : Dev nD) (f : Buf (Elt F) (oLoc d)) : sProp 𝕄 := oLoc d ↦{fullShare} f
abbrev oRowPts (d : Dev nD) (s : Fin 16) (f : Buf (Elt F) (oLoc d)) : sProp 𝕄 := oLoc d ↦[rowSet s]{fullShare} f

/-- The call takes the operand and the result whole and brings them back, the result at the tiles' rows; each tile takes its
    share of the operand and its row of the result. -/
def P : (K (F := F)).Pay (nD := nD) (Val := Elt F) (Name := ℕ) (U := UU) where
  st := fun q d _ => match q with | 0 => iprop(xPts m d ∗ oPts d (m (oLoc d)))
  dn := fun q d _ => match q with | 0 => iprop(xPts m d ∗ oPts d (O m d))
  go := fun q d _ i => match q with
    | 0 => iprop(xTok m d (Fin.cast nSub_zero i) ∗ oRowPts d (Fin.cast nSub_zero i) (m (oLoc d)))
  td := fun q d _ i => match q with
    | 0 => iprop(xTok m d (Fin.cast nSub_zero i) ∗ oRowPts d (Fin.cast nSub_zero i) (O m d))
  x := fun _ _ => iprop(emp)

instance P_storable : (P (F := F) m).IsStorable where
  st q d _ := match q with
    | 0 => (inferInstance : BI.Storable (upEmb : UEmb _ 𝕄) iprop(xPts m d ∗ oPts d (m (oLoc d))))
  dn q d _ := match q with
    | 0 => (inferInstance : BI.Storable (upEmb : UEmb _ 𝕄) iprop(xPts m d ∗ oPts d (O m d)))
  go q d _ i := match q with
    | 0 => (inferInstance : BI.Storable (upEmb : UEmb _ 𝕄) iprop(xTok m d (Fin.cast nSub_zero i) ∗ oRowPts d (Fin.cast nSub_zero i) (m (oLoc d))))
  td q d _ i := match q with
    | 0 => (inferInstance : BI.Storable (upEmb : UEmb _ 𝕄) iprop(xTok m d (Fin.cast nSub_zero i) ∗ oRowPts d (Fin.cast nSub_zero i) (O m d)))

end Cert.Proof.Diag

end
-- ==== Proof.Walk.lean ====
/-
  The five loops of a tile over the words that it fetched: their sums in closed form.
-/
module

public import proofs.«01_k».proof.Proof.Launch

@[expose] public section

set_option maxRecDepth 16384

noncomputable section

namespace Cert.Proof.Diag

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "xV" => (Memref.whole Cert.KernelIdeal.main_v0_scv : Memref Cert.KernelIdeal.sig Kind.scVector Space.hbm Cert.KernelIdeal.S8x16384 EltTy.f32)
local notation "oV" => (Memref.whole Cert.KernelIdeal.main_v1_scv : Memref Cert.KernelIdeal.sig Kind.scVector Space.hbm Cert.KernelIdeal.S16x16 EltTy.f32)
local notation "sB" => (Memref.whole Cert.KernelIdeal.cc0_scratch0 : Memref Cert.KernelIdeal.sig Kind.scVector Space.vmem Cert.KernelIdeal.S16448 EltTy.f32)
local notation "sR" => (Memref.whole Cert.KernelIdeal.cc0_scratch1 : Memref Cert.KernelIdeal.sig Kind.scVector Space.vmem Cert.KernelIdeal.S16 EltTy.f32)

abbrev cV (L : grid0.Coords) : Fin τ.nSC := (L 0).castLE hcore0
abbrev jV (L : grid0.Coords) : Fin τ.nSub := (L 1).castLE hsub0

/-- How many words of its row a tile fetches. -/
def lim (h : ℕ) : ℕ := if h = 0 then 16256 else 12160

/-- The buffer's first `lim` words are matrix `b`'s. -/
def Held (X : S8x16384.Idx → F .f32) (b n : ℕ) (f : S16448.Idx → F .f32) : Prop :=
  ∀ p : S16448.Idx, (p 0).val < n → f p = ent X b (p 0).val

variable (d : Dev nD) (L : grid0.Coords)

theorem half_lt : half L < 2 := Nat.mod_lt _ (by decide)

/-- A window of a row's diagonals, loaded: its lanes are the row's words, as far as the diagonals are in the matrix. -/
theorem load_row (f : Buf (Elt F) ((sB).view.loc (V d (cV L) (jV L)))) (X : S8x16384.Idx → F .f32) (hf : Held X (bat L) (lim (half L)) f)
    (k : Fin 4) (r : ℕ) (off : Fin 1 → ℕ) (inb) (ho : off = ![129 * r + d0 (half L) k]) (l : S16.Idx) (hl : d0 (half L) k + (l 0).val + r < 128) :
    (sB).view.readAt (Elt F) (Rect.unit (s := S16448) off S16.size inb).toLoadRect f l = ent X (bat L) (129 * r + d0 (half L) k + (l 0).val) := by
  subst ho
  have hb : 129 * r + d0 (half L) k + (l 0).val < lim (half L) := by
    have hh : half L = 0 ∨ half L = 1 := by have := half_lt L; omega
    have hd : d0 (half L) k ≥ (if half L = 0 then 1 else 33) := by
      unfold d0; rcases hh with e | e <;> rw [e] <;> fin_cases k <;> decide
    unfold lim
    rcases hh with e | e
    · rw [if_pos e] at hd ⊢; omega
    · rw [if_neg (by omega)] at hd ⊢; omega
  have e : (((Rect.unit (s := S16448) ![129 * r + d0 (half L) k] S16.size inb).toLoadRect.idx l : S16448.Idx) 0).val = 129 * r + d0 (half L) k + (l 0).val := by
    show (129 * r + d0 (half L) k) + 1 * (l 0).val = _
    rw [Nat.one_mul]
  refine (hf ((Rect.unit (s := S16448) ![129 * r + d0 (half L) k] S16.size inb).toLoadRect.idx l) (by rw [e]; exact hb)).trans ?_
  rw [e]

/-- The window whole, where all its diagonals are in the matrix. -/
theorem load_row_all (f : Buf (Elt F) ((sB).view.loc (V d (cV L) (jV L)))) (X : S8x16384.Idx → F .f32) (hf : Held X (bat L) (lim (half L)) f)
    (k : Fin 4) (r : ℕ) (off : Fin 1 → ℕ) (inb) (ho : off = ![129 * r + d0 (half L) k]) (hr : d0 (half L) k + 15 + r < 128) :
    (sB).view.readAt (Elt F) (Rect.unit (s := S16448) off S16.size inb).toLoadRect f = rowv X (bat L) (d0 (half L) k) r := by
  funext l
  have hl : d0 (half L) k + (l 0).val + r < 128 := by have : (l 0).val < 16 := (l 0).isLt; omega
  rw [load_row d L f X hf k r off inb ho l hl]
  unfold rowv
  rw [if_pos hl]

/-! ## One trip's sums -/

section Trip
variable (X : S8x16384.Idx → F .f32) (b e r : ℕ) (w₁ w₂ : FVec F S16 .f32)

theorem sum_two (h₁ : w₁ = rowv X b e r) (h₂ : w₂ = rowv X b e (r + 1)) : addf (addf (sumv X b e r) w₁) w₂ = sumv X b e (r + 2) := by
  subst h₁ h₂; rfl
theorem sq_two (h₁ : w₁ = rowv X b e r) (h₂ : w₂ = rowv X b e (r + 1)) :
    addf (addf (sqv X b e r) (mulf w₁ w₁)) (mulf w₂ w₂) = sqv X b e (r + 2) := by
  subst h₁ h₂; rfl
end Trip

theorem word1 : ∀ t : Fin 64, Scalar.addi 0#32 (Scalar.muli (Scf.iv 0#32 1#32 t.val) 2#32) = BitVec.ofNat 32 (2 * t.val) := by decide +kernel
theorem word1' : ∀ t : Fin 64, Scalar.addi (Scalar.addi 0#32 (Scalar.muli (Scf.iv 0#32 1#32 t.val) 2#32)) 1#32 = BitVec.ofNat 32 (2 * t.val + 1) := by
  decide +kernel
theorem word3 : ∀ (h : Fin 2) (t : Fin 64), Scalar.addi (Scalar.addi 0#32 (Scalar.muli (BitVec.ofNat 32 (n0 h)) 2#32)) (Scalar.muli (Scf.iv 0#32 1#32 t.val) 2#32)
    = BitVec.ofNat 32 (2 * n0 h + 2 * t.val) := by decide +kernel
theorem word3' : ∀ (h : Fin 2) (t : Fin 64), Scalar.addi (Scalar.addi (Scalar.addi 0#32 (Scalar.muli (BitVec.ofNat 32 (n0 h)) 2#32)) (Scalar.muli (Scf.iv 0#32 1#32 t.val) 2#32)) 1#32
    = BitVec.ofNat 32 (2 * n0 h + 2 * t.val + 1) := by decide +kernel
theorem word5 : ∀ (h : Fin 2) (t : Fin 64), Scalar.addi (Scalar.addi (Scalar.addi 0#32 (Scalar.muli (BitVec.ofNat 32 (n0 h)) 2#32)) (Scalar.muli (BitVec.ofNat 32 (n1 h)) 2#32))
      (Scalar.muli (Scf.iv 0#32 1#32 t.val) 2#32)
    = BitVec.ofNat 32 (2 * n0 h + 2 * n1 h + 2 * t.val) := by decide +kernel
theorem word5' : ∀ (h : Fin 2) (t : Fin 64), Scalar.addi (Scalar.addi (Scalar.addi (Scalar.addi 0#32 (Scalar.muli (BitVec.ofNat 32 (n0 h)) 2#32)) (Scalar.muli (BitVec.ofNat 32 (n1 h)) 2#32))
      (Scalar.muli (Scf.iv 0#32 1#32 t.val) 2#32)) 1#32
    = BitVec.ofNat 32 (2 * n0 h + 2 * n1 h + 2 * t.val + 1) := by decide +kernel

theorem d0_lt (h : ℕ) (k : Fin 4) : d0 h k < 128 := by unfold d0; split <;> fin_cases k <;> decide
theorem n0_le (h : ℕ) : n0 h ≤ 32 := by unfold n0; split <;> decide
theorem n1_le (h : ℕ) : n1 h ≤ 40 := by unfold n1; split <;> decide

/-- A masked window is the row. -/
theorem masked_row (f : Buf (Elt F) ((sB).view.loc (V d (cV L) (jV L)))) (X : S8x16384.Idx → F .f32) (hf : Held X (bat L) (lim (half L)) f)
    (k : Fin 4) (r : ℕ) (off : Fin 1 → ℕ) (inb) (ho : off = ![129 * r + d0 (half L) k]) (v : IVec S16 32)
    (hv : ∀ l, v l = BitVec.ofNat 32 (d0 (half L) k + (l 0).val)) (w : BitVec 32) (hw : w = BitVec.ofNat 32 r) (hr : r < 200) :
    select (cmpi .slt (addi v (broadcast S16 w)) (broadcast S16 128#32))
        ((sB).view.readAt (Elt F) (Rect.unit (s := S16448) off S16.size inb).toLoadRect f) (broadcast S16 (Scalar.ofBits .f32 0x00000000#32))
      = rowv X (bat L) (d0 (half L) k) r :=
  select_row v w _ X (bat L) (d0 (half L) k) r hv hw (by have := d0_lt (half L) k; omega)
    fun l hl => load_row d L f X hf k r off inb ho l hl

/-! ## The loops' invariants -/

/-- The first loop's: after `t` trips, `2 t` rows of all four chunks. -/
def inv1 (X : S8x16384.Idx → F .f32) (f : Buf (Elt F) ((sB).view.loc (V d (cV L) (jV L)))) (t : ℕ)
    (a : FVec F S16 .f32 × FVec F S16 .f32 × FVec F S16 .f32 × FVec F S16 .f32 × FVec F S16 .f32 × FVec F S16 .f32 × FVec F S16 .f32 × FVec F S16 .f32) : sProp 𝕄 :=
  iprop(⌜a = (sumv X (bat L) (d0 (half L) 0) (2 * t), sqv X (bat L) (d0 (half L) 0) (2 * t),
      sumv X (bat L) (d0 (half L) 1) (2 * t), sqv X (bat L) (d0 (half L) 1) (2 * t),
      sumv X (bat L) (d0 (half L) 2) (2 * t), sqv X (bat L) (d0 (half L) 2) (2 * t),
      sumv X (bat L) (d0 (half L) 3) (2 * t), sqv X (bat L) (d0 (half L) 3) (2 * t))⌝
    ∗ ((sB).view.loc (V d (cV L) (jV L)) ↦{fullShare} f))

/-- The third loop's: two chunks, from where the first loop left them. -/
def inv3 (X : S8x16384.Idx → F .f32) (f : Buf (Elt F) ((sB).view.loc (V d (cV L) (jV L)))) (t : ℕ)
    (a : FVec F S16 .f32 × FVec F S16 .f32 × FVec F S16 .f32 × FVec F S16 .f32) : sProp 𝕄 :=
  iprop(⌜a = (sumv X (bat L) (d0 (half L) 0) (2 * n0 (half L) + 2 * t), sqv X (bat L) (d0 (half L) 0) (2 * n0 (half L) + 2 * t),
      sumv X (bat L) (d0 (half L) 1) (2 * n0 (half L) + 2 * t), sqv X (bat L) (d0 (half L) 1) (2 * n0 (half L) + 2 * t))⌝
    ∗ ((sB).view.loc (V d (cV L) (jV L)) ↦{fullShare} f))

/-- The last loop's: the longest diagonals. -/
def inv5 (X : S8x16384.Idx → F .f32) (f : Buf (Elt F) ((sB).view.loc (V d (cV L) (jV L)))) (t : ℕ)
    (a : FVec F S16 .f32 × FVec F S16 .f32) : sProp 𝕄 :=
  iprop(⌜a = (sumv X (bat L) (d0 (half L) 0) (2 * n0 (half L) + 2 * n1 (half L) + 2 * t), sqv X (bat L) (d0 (half L) 0) (2 * n0 (half L) + 2 * n1 (half L) + 2 * t))⌝
    ∗ ((sB).view.loc (V d (cV L) (jV L)) ↦{fullShare} f))

/-- What the five loops return. -/
def sums (X : S8x16384.Idx → F .f32) (L : grid0.Coords) :
    Σ' (v33_4 : FVec F S16 .f32) (v33_5 : FVec F S16 .f32) (v33_6 : FVec F S16 .f32) (v33_7 : FVec F S16 .f32) (v50 : FVec F S16 .f32) (v53 : FVec F S16 .f32) (v56 : FVec F S16 .f32) (v59 : FVec F S16 .f32) (v67 : FVec F S16 .f32), FVec F S16 .f32 :=
  ⟨sumv X (bat L) (d0 (half L) 2) (2 * n0 (half L)), sqv X (bat L) (d0 (half L) 2) (2 * n0 (half L)),
    sumv X (bat L) (d0 (half L) 3) (2 * n0 (half L)), sqv X (bat L) (d0 (half L) 3) (2 * n0 (half L)),
    k0_pay52 (F := F) (k0_pay17 L), k0_pay53 (F := F) (k0_pay18 L), k0_pay54 (F := F) (k0_pay19 L), k0_pay55 (F := F) (k0_pay20 L),
    k0_pay56 (k0_pay17 L) (sumv X (bat L) (d0 (half L) 0) (2 * n0 (half L) + 2 * n1 (half L) + 16)) (sqv X (bat L) (d0 (half L) 0) (2 * n0 (half L) + 2 * n1 (half L) + 16)),
    k0_pay57 (k0_pay18 L) (sumv X (bat L) (d0 (half L) 1) (2 * n0 (half L) + 2 * n1 (half L))) (sqv X (bat L) (d0 (half L) 1) (2 * n0 (half L) + 2 * n1 (half L)))⟩

theorem part4_run (X : S8x16384.Idx → F .f32) (f : Buf (Elt F) ((sB).view.loc (V d (cV L) (jV L)))) (hf : Held X (bat L) (lim (half L)) f)
    (v7 v9 v11 v13 v30 : BitVec 32) (v23 v25 : BitVec 32) (h23 : v23 = BitVec.ofNat 32 (n0 (half L))) (h25 : v25 = BitVec.ofNat 32 (n1 (half L))) :
    ((sB).view.loc (V d (cV L) (jV L)) ↦{fullShare} f : sProp 𝕄)
      ⊢ wp frame (wpE (defs₀ (F := F)) 𝒱₀ (V d (cV L) (jV L)) none) Set.univ
          (k0_part4 L xV (Memref.isWhole_whole _) oV (Memref.isWhole_whole _) sB (Memref.isWhole_whole _) sR (Memref.isWhole_whole _)
            cc0_scoped0 cc0_scoped1 cc0_scoped2 v7 v9 v11 v13 (k0_pay17 L) (k0_pay18 L) (k0_pay19 L) (k0_pay20 L) v23 v25 k0_pay21 0#32 v30)
          fun r => iprop(⌜r = sums X L⌝ ∗ ((sB).view.loc (V d (cV L) (jV L)) ↦{fullShare} f)) := by
  rw [k0_part4_eq_skeleton]; unfold k0_part4_skel
  subst h23 h25
  have hh := half_lt L
  have hn0 := n0_le (half L)
  have hn1 := n1_le (half L)
  iintro Hs
  sl_exec
  sl_for (inv1 d L X f) $$ [Hs]
  case region =>
    intro k a
    unfold inv1
    have hk : k.val < n0 (half L) := trips1 L ▸ k.isLt
    iintro ⟨%ha, Hs⟩
    subst ha
    sl_exec
    sl_step
    isplitr [Hs]
    · ipureintro
      have hw : (⟨half L, hh⟩ : Fin 2).val = half L := rfl
      simp only [Prod.mk.injEq]
      have hb0 : d0 (half L) 0 + 15 + (2 * k.val + 1) < 128 := by unfold n0 at hk; unfold d0; split at hk <;> rename_i e <;> simp [e] <;> omega
      have hb1 : d0 (half L) 1 + 15 + (2 * k.val + 1) < 128 := by unfold n0 at hk; unfold d0; split at hk <;> rename_i e <;> simp [e] <;> omega
      have a0 := load_row_all d L f X hf 0 (2 * k.val) _ (k0_off3_inb L k 0) (off3_eq L k 0) (by omega)
      have a0' := load_row_all d L f X hf 0 (2 * k.val + 1) _ (k0_off4_inb L k 0) (off4_eq L k 0) (by omega)
      have a1 := load_row_all d L f X hf 1 (2 * k.val) _ (k0_off3_inb L k 1) (off3_eq L k 1) (by omega)
      have a1' := load_row_all d L f X hf 1 (2 * k.val + 1) _ (k0_off4_inb L k 1) (off4_eq L k 1) (by omega)
      have a2 := masked_row d L f X hf 2 (2 * k.val) _ (k0_off3_inb L k 2) (off3_eq L k 2) (k0_pay19 L) (dv2 L) _ (word1 ⟨k.val, by omega⟩) (by omega)
      have a2' := masked_row d L f X hf 2 (2 * k.val + 1) _ (k0_off4_inb L k 2) (off4_eq L k 2) (k0_pay19 L) (dv2 L) _ (word1' ⟨k.val, by omega⟩) (by omega)
      have a3 := masked_row d L f X hf 3 (2 * k.val) _ (k0_off3_inb L k 3) (off3_eq L k 3) (k0_pay20 L) (dv3 L) _ (word1 ⟨k.val, by omega⟩) (by omega)
      have a3' := masked_row d L f X hf 3 (2 * k.val + 1) _ (k0_off4_inb L k 3) (off4_eq L k 3) (k0_pay20 L) (dv3 L) _ (word1' ⟨k.val, by omega⟩) (by omega)
      exact ⟨sum_two X _ _ _ _ _ a0 a0', sq_two X _ _ _ _ _ a0 a0', sum_two X _ _ _ _ _ a1 a1', sq_two X _ _ _ _ _ a1 a1',
        sum_two X _ _ _ _ _ a2 a2', sq_two X _ _ _ _ _ a2 a2', sum_two X _ _ _ _ _ a3 a3', sq_two X _ _ _ _ _ a3 a3'⟩
    · iexact Hs
  · unfold inv1
    isplitr
    · ipureintro; rfl
    · iexact Hs
  iintro %a HI
  unfold inv1
  icases HI with ⟨%ha, Hs⟩
  rw [show Scf.trips (k0_t1_loop L).lb (k0_t1_loop L).ub (k0_t1_loop L).st = n0 (half L) from trips1 L] at ha
  subst ha
  sl_exec
  sl_for (fun _ => inv1 d L X f (n0 (half L))) $$ [Hs]
  case region =>
    intro k a
    exact absurd (trips2 L ▸ k.isLt : k.val < 0) (Nat.not_lt_zero _)
  · unfold inv1
    isplitr
    · ipureintro; rfl
    · iexact Hs
  iintro %a HI
  unfold inv1
  icases HI with ⟨%ha, Hs⟩
  subst ha
  sl_exec
  sl_for (inv3 d L X f) $$ [Hs]
  case region =>
    intro k a
    unfold inv3
    have hk : k.val < n1 (half L) := trips3 L ▸ k.isLt
    iintro ⟨%ha, Hs⟩
    subst ha
    sl_exec
    sl_step
    isplitr [Hs]
    · ipureintro
      simp only [Prod.mk.injEq]
      have hb0 : d0 (half L) 0 + 15 + (2 * n0 (half L) + 2 * k.val + 1) < 128 := by
        unfold n1 at hk; unfold d0 n0; split at hk <;> rename_i e <;> simp [e] <;> omega
      have a0 := load_row_all d L f X hf 0 (2 * n0 (half L) + 2 * k.val) _ (k0_off7_inb L k 0) (off7_eq L k 0) (by omega)
      have a0' := load_row_all d L f X hf 0 (2 * n0 (half L) + 2 * k.val + 1) _ (k0_off8_inb L k 0) (off8_eq L k 0) (by omega)
      have a1 := masked_row d L f X hf 1 (2 * n0 (half L) + 2 * k.val) _ (k0_off7_inb L k 1) (off7_eq L k 1) (k0_pay18 L) (dv1 L) _
        (word3 ⟨half L, hh⟩ ⟨k.val, by omega⟩) (by omega)
      have a1' := masked_row d L f X hf 1 (2 * n0 (half L) + 2 * k.val + 1) _ (k0_off8_inb L k 1) (off8_eq L k 1) (k0_pay18 L) (dv1 L) _
        (word3' ⟨half L, hh⟩ ⟨k.val, by omega⟩) (by omega)
      exact ⟨sum_two X _ _ _ _ _ a0 a0', sq_two X _ _ _ _ _ a0 a0', sum_two X _ _ _ _ _ a1 a1', sq_two X _ _ _ _ _ a1 a1'⟩
    · iexact Hs
  · unfold inv3
    isplitr
    · ipureintro; rfl
    · iexact Hs
  iintro %a HI
  unfold inv3
  icases HI with ⟨%ha, Hs⟩
  rw [show Scf.trips (k0_t3_loop L).lb (k0_t3_loop L).ub (k0_t3_loop L).st = n1 (half L) from trips3 L] at ha
  subst ha
  sl_exec
  sl_for (fun _ => inv3 d L X f (n1 (half L))) $$ [Hs]
  case region =>
    intro k a
    exact absurd (trips4 L ▸ k.isLt : k.val < 0) (Nat.not_lt_zero _)
  · unfold inv3
    isplitr
    · ipureintro; rfl
    · iexact Hs
  iintro %a HI
  unfold inv3
  icases HI with ⟨%ha, Hs⟩
  subst ha
  sl_exec
  sl_for (inv5 d L X f) $$ [Hs]
  case region =>
    intro k a
    unfold inv5
    have hk : k.val < 8 := trips5 ▸ k.isLt
    iintro ⟨%ha, Hs⟩
    subst ha
    sl_exec
    sl_step
    isplitr [Hs]
    · ipureintro
      simp only [Prod.mk.injEq]
      have a0 := masked_row d L f X hf 0 (2 * n0 (half L) + 2 * n1 (half L) + 2 * k.val) _ (k0_off11_inb L k) (off11_eq L k) (k0_pay17 L) (dv0 L) _
        (word5 ⟨half L, hh⟩ ⟨k.val, by omega⟩) (by omega)
      have a0' := masked_row d L f X hf 0 (2 * n0 (half L) + 2 * n1 (half L) + 2 * k.val + 1) _ (k0_off12_inb L k) (off12_eq L k) (k0_pay17 L) (dv0 L) _
        (word5' ⟨half L, hh⟩ ⟨k.val, by omega⟩) (by omega)
      exact ⟨sum_two X _ _ _ _ _ a0 a0', sq_two X _ _ _ _ _ a0 a0'⟩
    · iexact Hs
  · unfold inv5
    isplitr
    · ipureintro; rfl
    · iexact Hs
  iintro %a HI
  unfold inv5
  icases HI with ⟨%ha, Hs⟩
  rw [show Scf.trips k0_t5_loop.lb k0_t5_loop.ub k0_t5_loop.st = 8 from trips5] at ha
  subst ha
  sl_exec
  sl_step
  isplitr
  · ipureintro; rfl
  · iexact Hs

/-- What the ten Newton steps return, and the mask of the first group. -/
def roots (X : S8x16384.Idx → F .f32) (L : grid0.Coords) :
    Σ' (v109_0 : FVec F S16 .f32) (v109_1 : FVec F S16 .f32) (v109_2 : FVec F S16 .f32) (v109_3 : FVec F S16 .f32), IVec S16 1 :=
  ⟨newton (var0 X L) 10, newton (var1 X L) 10, newton (var2 X L) 10, newton (var3 X L) 10, k0_pay69 (k0_pay17 L)⟩

/-- The Newton loop's: after `t` trips, `t` steps of all four groups. -/
def inv6 (X : S8x16384.Idx → F .f32) (f : Buf (Elt F) ((sB).view.loc (V d (cV L) (jV L)))) (t : ℕ)
    (a : FVec F S16 .f32 × FVec F S16 .f32 × FVec F S16 .f32 × FVec F S16 .f32) : sProp 𝕄 :=
  iprop(⌜a = (newton (var0 X L) t, newton (var1 X L) t, newton (var2 X L) t, newton (var3 X L) t)⌝
    ∗ ((sB).view.loc (V d (cV L) (jV L)) ↦{fullShare} f))

theorem part5_run (X : S8x16384.Idx → F .f32) (f : Buf (Elt F) ((sB).view.loc (V d (cV L) (jV L)))) :
    ((sB).view.loc (V d (cV L) (jV L)) ↦{fullShare} f : sProp 𝕄)
      ⊢ wp frame (wpE (defs₀ (F := F)) 𝒱₀ (V d (cV L) (jV L)) none) Set.univ
          (k0_part5 L xV (Memref.isWhole_whole _) oV (Memref.isWhole_whole _) sB (Memref.isWhole_whole _) sR (Memref.isWhole_whole _)
            cc0_scoped0 cc0_scoped1 cc0_scoped2 (k0_pay17 L) (sums X L).1 (sums X L).2.1 (sums X L).2.2.1 (sums X L).2.2.2.1
            (sums X L).2.2.2.2.2.1 (sums X L).2.2.2.2.2.2.1 (sums X L).2.2.2.2.2.2.2.1 (sums X L).2.2.2.2.2.2.2.2.1 (sums X L).2.2.2.2.2.2.2.2.2)
          fun r => iprop(⌜r = roots X L⌝ ∗ ((sB).view.loc (V d (cV L) (jV L)) ↦{fullShare} f)) := by
  rw [k0_part5_eq_skeleton]; unfold k0_part5_skel
  iintro Hs
  sl_for (inv6 d L X f) $$ [Hs]
  case region =>
    intro k a
    unfold inv6
    iintro ⟨%ha, Hs⟩
    subst ha
    sl_exec
    sl_step
    isplitr [Hs]
    · ipureintro; rfl
    · iexact Hs
  · unfold inv6
    isplitr
    · ipureintro; rfl
    · iexact Hs
  iintro %a HI
  unfold inv6
  icases HI with ⟨%ha, Hs⟩
  rw [show Scf.trips k0_t6_loop.lb k0_t6_loop.ub k0_t6_loop.st = 10 from trips6] at ha
  subst ha
  sl_exec
  sl_step
  isplitr
  · ipureintro; rfl
  · iexact Hs

end Cert.Proof.Diag

end
-- ==== Proof.Tile.lean ====
/-
  One tile's task, run once at a symbolic tile number, with the values it leaves.
-/
module

public import proofs.«01_k».proof.Proof.Walk

@[expose] public section

set_option maxRecDepth 16384

noncomputable section

namespace Cert.Proof.Diag

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "xV" => (Memref.whole Cert.KernelIdeal.main_v0_scv : Memref Cert.KernelIdeal.sig Kind.scVector Space.hbm Cert.KernelIdeal.S8x16384 EltTy.f32)
local notation "oV" => (Memref.whole Cert.KernelIdeal.main_v1_scv : Memref Cert.KernelIdeal.sig Kind.scVector Space.hbm Cert.KernelIdeal.S16x16 EltTy.f32)
local notation "sB" => (Memref.whole Cert.KernelIdeal.cc0_scratch0 : Memref Cert.KernelIdeal.sig Kind.scVector Space.vmem Cert.KernelIdeal.S16448 EltTy.f32)
local notation "sR" => (Memref.whole Cert.KernelIdeal.cc0_scratch1 : Memref Cert.KernelIdeal.sig Kind.scVector Space.vmem Cert.KernelIdeal.S16 EltTy.f32)

variable (m : (ℓ : Loc nD τ sig) → Buf (Elt F) ℓ) (d : Dev nD) (L : grid0.Coords)

theorem bound_one : grid0.bound 1 = 16 := rfl
abbrev jL (L : grid0.Coords) : Fin 16 := Fin.cast bound_one (L 1)

/-- The row of the result that the body addresses. -/
abbrev rowK (L : grid0.Coords) : Rect S16x16 := Rect.unit (s := S16x16) (k0_off13 L) S1x16.size (k0_off13_inb L)
abbrev oRowK (L : grid0.Coords) : Memref sig .scVector .hbm S16 .f32 := ((oV).slice (rowK L) (fun _ => rfl)).squeeze S16 squeezes_S1x16_S16

theorem rowK_eq : rowK L = row (jL L) := by
  unfold rowK row Rect.part Rect.block
  congr 1 <;> funext a
  · rw [k0_off13_eq]
    match a with
    | 0 => simp [Shape.partIx, Shape.partSize]
    | 1 => simp [Shape.partIx, Shape.partSize]
  · match a with
    | 0 => simp [Shape.partSize]
    | 1 => simp [Shape.partSize]

theorem set_oRowK : (oRowK L).view.set = rowSet (jL L) := by
  show (((oV).view.slice (rowK L)).reshape S16 squeezes_S1x16_S16.numel_eq).set = ((oV).view.slice (row (jL L))).set
  rw [View.set_reshape]
  exact rowK_eq L ▸ rfl

theorem pts_oRowK (f : Buf (Elt F) (oLoc d)) :
    ((oRowK L).view.loc (V d (cV L) (jV L)) ↦[(oRowK L).view.set]{fullShare} f : sProp 𝕄) = oLoc d ↦[rowSet (jL L)]{fullShare} f := by
  rw [set_oRowK]
theorem pts_x (q : PosShare TreeShare) (f : Buf (Elt F) (xLoc d)) :
    ((xV).view.loc (V d (cV L) (jV L)) ↦{q} f : sProp 𝕄) = xLoc d ↦{q} f := rfl
theorem pts_sB (f : Buf (Elt F) ((V d (cV L) (jV L)).loc cc0_scratch0)) :
    ((sB).view.loc (V d (cV L) (jV L)) ↦{fullShare} f : sProp 𝕄) = (V d (cV L) (jV L)).loc cc0_scratch0 ↦{fullShare} f := rfl
theorem pts_sR (f : Buf (Elt F) ((V d (cV L) (jV L)).loc cc0_scratch1)) :
    ((sR).view.loc (V d (cV L) (jV L)) ↦{fullShare} f : sProp 𝕄) = (V d (cV L) (jV L)).loc cc0_scratch1 ↦{fullShare} f := rfl

/-- The three transfers' cells: the two copies in (one per branch) and the copy out. -/
abbrev c0cell (d : Dev nD) (c : Fin τ.nSC) (i : Fin τ.nSub) : GSem nD τ sig := (V d c i, .dma cc0_scoped0.sem)
abbrev c1cell (d : Dev nD) (c : Fin τ.nSC) (i : Fin τ.nSub) : GSem nD τ sig := (V d c i, .dma cc0_scoped1.sem)
abbrev c2cell (d : Dev nD) (c : Fin τ.nSC) (i : Fin τ.nSub) : GSem nD τ sig := (V d c i, .dma cc0_scoped2.sem)

theorem ownSems0_V :
    (ownSems0 (V d (cV L) (jV L)) : sProp 𝕄)
      = iprop(semVal (c0cell d (cV L) (jV L)) 0 ∗ semVal (c1cell d (cV L) (jV L)) 0 ∗ semVal (c2cell d (cV L) (jV L)) 0
          ∗ bigSep ((((ownCells (V d (cV L) (jV L))).erase (c0cell d (cV L) (jV L))).erase (c1cell d (cV L) (jV L))).erase (c2cell d (cV L) (jV L)))
              fun g => semVal g 0) := by
  unfold SparseCore.Cfg.ownSems0
  rw [SparseCore.bigSep_erase' ((mem_ownCells (g := c0cell d (cV L) (jV L))).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc0_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d (cV L) (jV L))).mpr ⟨rfl, by show (SemLoc.dma cc0_scoped2.sem : SemLoc sig).isScoped .scVector = true; decide⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

instance closedOff1 (i : grid0.Coords) : ClosedOff (k0_off1 i) := ⟨![bat i, 0], off1_eq i⟩
instance closedOff2 (i : grid0.Coords) : ClosedOff (k0_off2 i) := ⟨![bat i, 0], off2_eq i⟩

/-- A fetched prefix of matrix `b` is held. -/
theorem held_fetch (X : S8x16384.Idx → F .f32) (b n : ℕ) (fs : Buf (Elt F) ((sB).view.loc (V d (cV L) (jV L)))) (sz : Fin 1 → ℕ) (hsz : sz = ![n]) (inb)
    (w : (Rect.unit (s := S16448) ![0] sz inb).shape.Idx → F .f32) (hw : ∀ x, w x = ent X b (x 0).val) :
    Held X b n ((sB).view.writes (Elt F) fs [⟨Rect.unit (s := S16448) ![0] sz inb, w⟩]) := by
  subst hsz
  intro p hp
  refine (View.read_writes_cons_hit_of_coords (Val := Elt F) (sB).view fs (Rect.unit (s := S16448) ![0] ![n] inb) w [] (fun | 0 => ⟨(p 0).val, hp⟩) p ?_).trans (hw _)
  intro a
  match a with
  | 0 => show (p 0).val = 0 + 1 * (p 0).val; omega

/-- The words that the body computes from its tile number. -/
def Words (r : Σ' (v7 : BitVec 32) (v9 : BitVec 32) (v11 : BitVec 32) (v13 : BitVec 32) (v15 : IVec S16 32) (v17 : IVec S16 32) (v19 : IVec S16 32) (v21 : IVec S16 32) (v23 : BitVec 32) (v25 : BitVec 32) (v26 : FVec F S16 .f32) (c0_i32_10 : BitVec 32), BitVec 32) : Prop :=
  ∃ v7 v9 v11 v13 v30 : BitVec 32, r = ⟨v7, v9, v11, v13, k0_pay17 L, k0_pay18 L, k0_pay19 L, k0_pay20 L, BitVec.ofNat 32 (n0 (half L)), BitVec.ofNat 32 (n1 (half L)), k0_pay21, 0#32, v30⟩

theorem words_intro (v7 v9 v11 v13 v23 v25 v30 : BitVec 32) (h23 : v23 = BitVec.ofNat 32 (n0 (half L))) (h25 : v25 = BitVec.ofNat 32 (n1 (half L))) :
    Words (F := F) L ⟨v7, v9, v11, v13, k0_pay17 L, k0_pay18 L, k0_pay19 L, k0_pay20 L, v23, v25, k0_pay21, 0#32, v30⟩ := by
  subst h23 h25; exact ⟨v7, v9, v11, v13, v30, rfl⟩
theorem word23 : ∀ L : grid0.Coords, Scalar.select (Scalar.cmpi .eq (Scalar.andi (BitVec.ofNat 32 (L 1).val) 1#32) 0#32) 16#32 32#32 = BitVec.ofNat 32 (n0 (half L)) := by
  decide +kernel
theorem word25 : ∀ L : grid0.Coords, Scalar.select (Scalar.cmpi .eq (Scalar.andi (BitVec.ofNat 32 (L 1).val) 1#32) 0#32) 40#32 8#32 = BitVec.ofNat 32 (n1 (half L)) := by
  decide +kernel
theorem lim_taken : ∀ L : grid0.Coords, k0_cond1 L = 1#1 → lim (half L) = 12160 := by decide +kernel
theorem lim_other : ∀ L : grid0.Coords, ¬ k0_cond1 L = 1#1 → lim (half L) = 16256 := by decide +kernel
theorem bat_lt : bat L < 8 := by have : (L 1).val < 16 := (L 1).isLt; show (L 1).val / 2 < 8; omega

/-- Word `p` of matrix `b`, by its index. -/
theorem ent_eq (X : S8x16384.Idx → F .f32) (b p : ℕ) (y : S8x16384.Idx) (h₀ : (y 0).val = b) (h₁ : (y 1).val = p) : X y = ent X b p := by
  subst h₀ h₁
  unfold ent
  rw [dif_pos ⟨(y 0).isLt, (y 1).isLt⟩]
  congr 1; funext a
  match a with
  | 0 => rfl
  | 1 => rfl

/-- The copy in, by either branch of the switch: the buffer's first words are the matrix's. -/
theorem part3_run (q : PosShare TreeShare) (X : Buf (Elt F) (xLoc d)) (fs : Buf (Elt F) ((sB).view.loc (V d (cV L) (jV L))))
    (O' : CellTallies nD τ sig (HIx 1)) (W : Waits sig (HIx 1)) :
    (iprop(Transfers.MayWaits (V d (cV L) (jV L)) (none : HIx 1) O'
        ∗ ((xV).view.loc (V d (cV L) (jV L)) ↦{q} X) ∗ ((sB).view.loc (V d (cV L) (jV L)) ↦{fullShare} fs)
        ∗ semVal (c0cell d (cV L) (jV L)) 0 ∗ semVal (c1cell d (cV L) (jV L)) 0 ∗ owes (V d (cV L) (jV L)) O' W) : sProp 𝕄)
      ⊢ wp frame (wpE (defs₀ (F := F)) 𝒱₀ (V d (cV L) (jV L)) none) Set.univ
          (k0_part3 L xV (Memref.isWhole_whole _) oV (Memref.isWhole_whole _) sB (Memref.isWhole_whole _) sR (Memref.isWhole_whole _)
            cc0_scoped0 cc0_scoped1 cc0_scoped2)
          fun r => iprop(⌜Words L r⌝ ∗ ∃ f, ∃ W', ((xV).view.loc (V d (cV L) (jV L)) ↦{q} X) ∗ ((sB).view.loc (V d (cV L) (jV L)) ↦{fullShare} f)
            ∗ semVal (c0cell d (cV L) (jV L)) 0 ∗ semVal (c1cell d (cV L) (jV L)) 0 ∗ owes (V d (cV L) (jV L)) O' W'
            ∗ ⌜Held X (bat L) (lim (half L)) f ∧ ∀ p ∈ W', p ∈ W ∨ p.2 = none⌝) := by
  rw [k0_part3_eq_skeleton]; unfold k0_part3_skel
  iintro ⟨#Hmw, Hx, Hs, Hsem0, Hsem1, HO⟩
  by_cases k0_h1 : k0_cond1 L = 1#1
  · sl_exec (disch := exact View.amount_pos _ _ (show 0 < S12160.numel by decide))
    sl_step
    isplitr
    · ipureintro
      exact words_intro L _ _ _ _ _ _ _ (word23 L) (word25 L)
    iexists _, _
    isplitl [Hx]; · iexact Hx
    isplitl [Hs]; · iexact Hs
    isplitl [Hsem0]; · iexact Hsem0
    isplitl [Hsem1]; · iexact Hsem1
    isplitl [HO]; · iexact HO
    ipureintro
    rw [lim_taken L k0_h1]
    refine ⟨held_fetch d L X (bat L) 12160 fs _ rfl _ _ ?_, ?_⟩
    · intro x
      have e : (Shape.reshapeEquiv squeezes_S1x12160_S12160.numel_eq x : S1x12160.Idx) = Fin.cons ⟨0, Nat.one_pos⟩ x :=
        Shape.reshapeEquiv_cons_one _ x
      refine ent_eq X _ _ ((Rect.unit (s := S8x16384) (k0_off1 L) S1x12160.size (k0_off1_inb L k0_h1)).emb
        (Shape.reshapeEquiv squeezes_S1x12160_S12160.numel_eq x)) ?_ ?_
      · rw [e, Rect.emb_apply]
        show k0_off1 L 0 + 1 * 0 = bat L
        rw [off1_eq]; rfl
      · rw [e, Rect.emb_apply]
        show k0_off1 L 1 + 1 * (x 0).val = (x 0).val
        rw [off1_eq]; show 0 + 1 * (x 0).val = _; omega
    · intro p hp
      rcases Finset.mem_insert.mp hp with hp | hp
      · exact .inr (hp ▸ rfl)
      · exact .inl hp
  · sl_exec (disch := exact View.amount_pos _ _ (show 0 < S16256.numel by decide))
    sl_step
    isplitr
    · ipureintro
      exact words_intro L _ _ _ _ _ _ _ (word23 L) (word25 L)
    iexists _, _
    isplitl [Hx]; · iexact Hx
    isplitl [Hs]; · iexact Hs
    isplitl [Hsem0]; · iexact Hsem0
    isplitl [Hsem1]; · iexact Hsem1
    isplitl [HO]; · iexact HO
    ipureintro
    rw [lim_other L k0_h1]
    refine ⟨held_fetch d L X (bat L) 16256 fs _ rfl _ _ ?_, ?_⟩
    · intro x
      have e : (Shape.reshapeEquiv squeezes_S1x16256_S16256.numel_eq x : S1x16256.Idx) = Fin.cons ⟨0, Nat.one_pos⟩ x :=
        Shape.reshapeEquiv_cons_one _ x
      refine ent_eq X _ _ ((Rect.unit (s := S8x16384) (k0_off2 L) S1x16256.size (k0_off2_inb L k0_h1)).emb
        (Shape.reshapeEquiv squeezes_S1x16256_S16256.numel_eq x)) ?_ ?_
      · rw [e, Rect.emb_apply]
        show k0_off2 L 0 + 1 * 0 = bat L
        rw [off2_eq]; rfl
      · rw [e, Rect.emb_apply]
        show k0_off2 L 1 + 1 * (x 0).val = (x 0).val
        rw [off2_eq]; show 0 + 1 * (x 0).val = _; omega
    · intro p hp
      rcases Finset.mem_insert.mp hp with hp | hp
      · exact .inr (hp ▸ rfl)
      · exact .inl hp

/-- The tile's grid point by its number. -/
theorem coordsV_L (c : Fin (grid0.bound 0)) (s : Fin (grid0.bound 1)) (hs : s.val = (L 1).val) : coordsV c s = L := by
  funext a
  match a with
  | 0 => exact Fin.ext (by have h1 : c.val < 1 := c.isLt; have h2 : (L 0).val < 1 := (L 0).isLt; show c.val = (L 0).val; omega)
  | 1 => exact Fin.ext hs

theorem emb_oRowK_0 (j : S16.Idx) : (((oRowK L).view.emb j : S16x16.Idx) 0).val = (L 1).val := by
  have e : (Shape.reshapeEquiv squeezes_S1x16_S16.numel_eq j : S1x16.Idx) = Fin.cons ⟨0, Nat.one_pos⟩ j := Shape.reshapeEquiv_cons_one _ j
  show ((rowK L).emb (Shape.reshapeEquiv squeezes_S1x16_S16.numel_eq j) 0).val = _
  rw [e, Rect.emb_apply]
  show k0_off13 L 0 + 1 * 0 = _
  rw [k0_off13_eq]; rfl
theorem emb_oRowK_1 (j : S16.Idx) : (((oRowK L).view.emb j : S16x16.Idx) 1).val = (j 0).val := by
  have e : (Shape.reshapeEquiv squeezes_S1x16_S16.numel_eq j : S1x16.Idx) = Fin.cons ⟨0, Nat.one_pos⟩ j := Shape.reshapeEquiv_cons_one _ j
  show ((rowK L).emb (Shape.reshapeEquiv squeezes_S1x16_S16.numel_eq j) 1).val = _
  rw [e, Rect.emb_apply]
  show k0_off13 L 1 + 1 * (j 0).val = _
  rw [k0_off13_eq]; show 0 + 1 * (j 0).val = _; omega

/-- The row that the tile copies out is its row of the call's result. -/
theorem row_value (X : S8x16384.Idx → F .f32) (fo : Buf (Elt F) (oLoc d)) (w : S16.Idx → F .f32) (hw : w = tileVec X L) :
    ∀ i ∈ (oRowK L).view.set, (oRowK L).view.writes (Elt F) fo [⟨Rect.whole S16, w⟩] i = outv X i := by
  subst hw
  intro i hi
  obtain ⟨j, -, rfl⟩ := Finset.mem_map.mp hi
  refine (congrFun (View.read_writes_whole (Val := Elt F) (oRowK L).view fo (tileVec X L)) j).trans ?_
  have e := coordsV_L L ⟨0, Nat.one_pos⟩ ⟨(((oRowK L).view.emb j : S16x16.Idx) 0).val, (((oRowK L).view.emb j : S16x16.Idx) 0).isLt⟩ (emb_oRowK_0 L j)
  refine congr (congrArg (tileVec X) e.symm) (funext fun a => ?_)
  match a with
  | 0 => exact Fin.ext (emb_oRowK_1 L j).symm

/-- One tile's task: from its share of the operand and its row of the result, it ends with the row at the call's values. -/
theorem tile_body (hF : (K (F := F)).Facts) (O' : CellTallies nD τ sig (HIx 1)) (W : Waits sig (HIx 1)) (hO : ∀ g, O' g none = 0) :
    iprop(levAts (K (F := F)).L (K (F := F)).lev ∗ emp
        ∗ (xTok m d (jL L) ∗ oRowPts d (jL L) (m (oLoc d)))
        ∗ scopedBufs (V d (cV L) (jV L)) ∗ scopedSems0 (V d (cV L) (jV L)) ∗ owes (V d (cV L) (jV L)) O' W)
      ⊢ wp frame (wpE (defs₀ (F := F)) 𝒱₀ (V d (cV L) (jV L)) none) Set.univ
          (cc0_diag_std_kernel L xV (Memref.isWhole_whole _) oV (Memref.isWhole_whole _) sB (Memref.isWhole_whole _) sR (Memref.isWhole_whole _)
            cc0_scoped0 cc0_scoped1 cc0_scoped2)
          fun _ => iprop((xTok m d (jL L) ∗ oRowPts d (jL L) (O m d))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O' W') := by
  rw [cc0_diag_std_kernel_eq_skeleton]; unfold cc0_diag_std_kernel_skel
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fs, Hs⟩, ⟨%fc, Hc⟩, Hbufs⟩, ⟨Hsem0, Hsem1, Hsem2, Hsems⟩, HO⟩
  ihave Hmw := (show levAts (K (F := F)).L (K (F := F)).lev ⊢ Transfers.MayWaits (V d (cV L) (jV L)) (default : HIx 1) O' from
    (K (F := F)).mayWaits_none (thr := V d (cV L) (jV L)) hO) $$ Hlv
  ihave Hx' := (Entails.of_eq (pts_x (F := F) d L _ _).symm) $$ Hx
  ihave Ho' := (Entails.of_eq (pts_oRowK (F := F) d L _).symm) $$ Ho
  ihave Hs' := (Entails.of_eq (pts_sB (F := F) d L _).symm) $$ Hs
  ihave Hc' := (Entails.of_eq (pts_sR (F := F) d L _).symm) $$ Hc
  rw [wp_bind]
  iapply (wp_wand_r Idealize.ShloMosaic.frame (wpE (defs₀ (F := F)) 𝒱₀ (V d (cV L) (jV L)) none) Set.univ)
  isplitl [Hmw Hx' Hs' Hsem0 Hsem1 HO]
  · iapply (part3_run d L _ _ fs O' W)
    isplitl [Hmw]; · iexact Hmw
    isplitl [Hx']; · iexact Hx'
    isplitl [Hs']; · iexact Hs'
    isplitl [Hsem0]; · iexact Hsem0
    isplitl [Hsem1]; · iexact Hsem1
    iexact HO
  iintro %r ⟨%hr, %f, %W', Hx', Hs', Hsem0, Hsem1, HO, %hf⟩
  obtain ⟨v7, v9, v11, v13, v30, rfl⟩ := hr
  obtain ⟨hf, hW'⟩ := hf
  rw [wp_bind]
  iapply (wp_wand_r Idealize.ShloMosaic.frame (wpE (defs₀ (F := F)) 𝒱₀ (V d (cV L) (jV L)) none) Set.univ)
  isplitl [Hs']
  · iapply (part4_run d L (X m d) f hf v7 v9 v11 v13 v30 _ _ rfl rfl)
    iexact Hs'
  iintro %r ⟨%hr, Hs'⟩
  subst hr
  rw [wp_bind]
  iapply (wp_wand_r Idealize.ShloMosaic.frame (wpE (defs₀ (F := F)) 𝒱₀ (V d (cV L) (jV L)) none) Set.univ)
  isplitl [Hs']
  · iapply (part5_run d L (X m d) f)
    iexact Hs'
  iintro %r ⟨%hr, Hs'⟩
  subst hr
  rw [roots, sums, k0_part6_eq_skeleton]
  sl_exec (disch := exact View.amount_pos _ _ (show 0 < S16.numel by decide))
  sl_step
  isplitl [Hx' Ho']
  · isplitl [Hx']; · iapply (Entails.of_eq (pts_x (F := F) d L _ _)); iexact Hx'
    iapply (Entails.of_eq (pts_oRowK (F := F) d L _))
    have hw : tile_body.sl.dma2 m d L fc = tileVec (X m d) L := by
      funext j
      refine (View.read_writes_cons_hit_of_coords (Val := Elt F) (sR).view fc (Rect.unit (s := S16) ![0] S16.size inb_S16_S16_0) (tileVec (X m d) L) [] j j ?_)
      intro a
      match a with
      | 0 => show (j 0).val = 0 + 1 * (j 0).val; omega
    iapply (Entails.of_eq (pointsTo_congr (row_value d L (X m d) (m (oLoc d)) (tile_body.sl.dma2 m d L fc) hw)))
    iexact Ho'
  isplitl [Hs' Hc' Hbufs]
  · isplitl [Hs']; · iexists _; iapply (Entails.of_eq (pts_sB (F := F) d L _)); iexact Hs'
    isplitl [Hc']; · iexists _; iapply (Entails.of_eq (pts_sR (F := F) d L _)); iexact Hc'
    iexact Hbufs
  isplitl [Hsem0 Hsem1 Hsem2 Hsems]
  · isplitl [Hsem0]; · iexact Hsem0
    isplitl [Hsem1]; · iexact Hsem1
    isplitl [Hsem2]; · iexact Hsem2
    iexact Hsems
  iexists (insert (SemLoc.dma cc0_scoped2.sem, (default : HIx 1)) W')
  isplitr [HO]
  · ipureintro
    intro p hp
    rcases Finset.mem_insert.mp hp with hp | hp
    · exact .inr (.inl (hp ▸ rfl))
    · exact (hW' p hp).imp_right Or.inl
  · iexact HO

end Cert.Proof.Diag

end
-- ==== Proof.Run.lean ====
/-
  The program's run: the tiles' task as the launch theorem wants it, the operand's shares and the result's rows dealt to the
  tiles and gathered again, and `@main` on the TensorCore, which flattens the argument, makes the call, and adds its result up.
-/
module

public import proofs.«01_k».proof.Proof.Tile

@[expose] public section

set_option maxRecDepth 16384

noncomputable section

namespace Cert.Proof.Diag

open Cert.KernelIdeal Cert.KernelIdeal.Gen
open Idealize.ShloMosaic
open Idealize.ShloMosaic.SparseCore (S V T)
open Idealize.ShloMosaic.SparseCore.Cfg (HIx Pay)
open Idealize.ShloMosaic.StableHlo (held)
open Idealize.ShloMosaic.StableHlo (wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "xV" => (Memref.whole Cert.KernelIdeal.main_v0_scv : Memref Cert.KernelIdeal.sig Kind.scVector Space.hbm Cert.KernelIdeal.S8x16384 EltTy.f32)
local notation "oV" => (Memref.whole Cert.KernelIdeal.main_v1_scv : Memref Cert.KernelIdeal.sig Kind.scVector Space.hbm Cert.KernelIdeal.S16x16 EltTy.f32)
local notation "sB" => (Memref.whole Cert.KernelIdeal.cc0_scratch0 : Memref Cert.KernelIdeal.sig Kind.scVector Space.vmem Cert.KernelIdeal.S16448 EltTy.f32)
local notation "sR" => (Memref.whole Cert.KernelIdeal.cc0_scratch1 : Memref Cert.KernelIdeal.sig Kind.scVector Space.vmem Cert.KernelIdeal.S16 EltTy.f32)

variable (m : (ℓ : Loc nD τ sig) → Buf (Elt F) ℓ) (ρ : Dev nD → PrngReg)

/-! ## The tiles' task -/

theorem defs₀_vector (c : Fin τ.nSC) (s : Fin τ.nSub) :
    defs₀ (F := F) (.scVector c s) 0 ()
      = SparseCore.onTile hcore0 hsub0 (fun c s => cc0_diag_std_kernel (coordsV c s)
          xV (Memref.isWhole_whole _) oV (Memref.isWhole_whole _) sB (Memref.isWhole_whole _) sR (Memref.isWhole_whole _)
          cc0_scoped0 cc0_scoped1 cc0_scoped2) ⟨⟩ c s := rfl

theorem tileObl (hF : (K (F := F)).Facts) : (K (F := F)).TileObl (D (F := F)) 𝒱 (P m) v₀ 0 := by
  intro d c i O' W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O' W hO

/-! ## The operand's shares and the result's rows -/

theorem rowSet_eq (i : Fin 16) : rowSet i = (row i).set := by
  show ((View.whole (main_v1_scv : Ref sig .scVector)).slice (row i)).set = _
  rw [View.set_slice]; exact Finset.map_refl
theorem rows_disjoint : ∀ i ∈ (Finset.univ : Finset (Fin 16)), ∀ j ∈ (Finset.univ : Finset (Fin 16)), i ≠ j → Disjoint (rowSet i) (rowSet j) :=
  fun i _ j _ h => by rw [rowSet_eq, rowSet_eq]; exact Rect.part_disjoint hdiv h
theorem rows_cover : (Finset.univ : Finset (Fin 16)).biUnion rowSet = Finset.univ :=
  (Finset.biUnion_congr rfl fun i _ => rowSet_eq i).trans (Rect.biUnion_part hdiv)

theorem oPts_rows (d : Dev nD) (f : Buf (Elt F) (oLoc d)) :
    (oPts d f : sProp 𝕄) = bigSep Finset.univ fun i : Fin 16 => oRowPts d i f := by
  show (oLoc d ↦{fullShare} f : sProp 𝕄) = bigSep Finset.univ fun i : Fin 16 => oLoc d ↦[rowSet i]{fullShare} f
  rw [← pointsTo_biUnion Finset.univ (ℓ := oLoc d) rowSet rows_disjoint, rows_cover]; try rfl

theorem xPts_toks (d : Dev nD) :
    (xPts m d : sProp 𝕄) ⊢ iprop((xLoc d ↦{xRest} X m d) ∗ bigSep Finset.univ fun i : Fin 16 => xTok m d i) :=
  Transfers.pointsTo_toks_split (ℓ := xLoc d) fullShare 16
theorem xPts_join (d : Dev nD) :
    iprop((xLoc d ↦{xRest} X m d) ∗ bigSep Finset.univ fun i : Fin 16 => xTok m d i) ⊢ (xPts m d : sProp 𝕄) :=
  Transfers.pointsTo_toks_join (ℓ := xLoc d) fullShare 16

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(xPts m d ∗ oPts d (m (oLoc d))) ⊢ |={Set.univ}=> iprop(
      (bigSep Finset.univ fun i : Fin ((K (F := F)).nSub 0) => iprop(xTok m d (Fin.cast nSub_zero i) ∗ oRowPts d (Fin.cast nSub_zero i) (m (oLoc d))))
      ∗ ((bigSep Finset.univ fun i : Fin ((K (F := F)).nSub 0) => iprop(xTok m d (Fin.cast nSub_zero i) ∗ oRowPts d (Fin.cast nSub_zero i) (O m d)))
          -∗ iprop(xPts m d ∗ oPts d (O m d))))
  rw [bigSep_tasks (F := F) (fun i => iprop(xTok m d i ∗ oRowPts d i (m (oLoc d)))),
    bigSep_tasks (F := F) (fun i => iprop(xTok m d i ∗ oRowPts d i (O m d))),
    bigSep_sep', bigSep_sep', oPts_rows, oPts_rows]
  iintro ⟨Hx, Ho⟩
  ihave Hx' := (xPts_toks m d) $$ Hx
  icases Hx' with ⟨Hrest, Htoks⟩
  imodintro
  isplitl [Htoks Ho]
  · isplitl [Htoks]; · iexact Htoks
    iexact Ho
  iintro ⟨Htoks, Ho⟩
  isplitr [Ho]
  · iapply (xPts_join m d)
    isplitl [Hrest]; · iexact Hrest
    iexact Htoks
  iexact Ho

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## `@main` on the TensorCore -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev z' : DevRef τ sig := Proc.devRef .tc (main_cst : Ref sig .tc)
abbrev r' : DevRef τ sig := Proc.devRef .tc (main_v2 : Ref sig .tc)
abbrev zLoc (d : Dev nD) : Loc nD τ sig := (SparseCore.T d).loc main_cst

abbrev opFlat : HloOp τ sig (Elt F) := StableHlo.reshape main_arg0 main_v0 (rfl : (.f32 : EltTy) = .f32) shapeCasts_S8x128x128_S8x16384
abbrev opZero : HloOp τ sig (Elt F) := StableHlo.nullary main_cst (constant S_ .f32 0x00000000#32)
abbrev opSum : HloOp τ sig (Elt F) := StableHlo.binary main_v1 main_cst main_v2
  ((fun x v => Host.reduceAdd x v reducesTo_S16x16_S_d0_1 h_S_) : (⟨S16x16, .f32⟩ : BufTy).Contents (Elt F) → (⟨S_, .f32⟩ : BufTy).Contents (Elt F) → (⟨S_, .f32⟩ : BufTy).Contents (Elt F))

/-- The program's result. -/
def R (d : Dev nD) : S_.Idx → F .f32 := Host.reduceAdd (O m d) (constant S_ .f32 0x00000000#32) reducesTo_S16x16_S_d0_1 h_S_

/-- The TensorCore's arrays. -/
abbrev S5 : Finset (DevRef τ sig) := {a', x', o', z', r'}

theorem held_S5 (d : Dev nD) (W : Valuation τ sig (Elt F)) :
    (held (T d) S5 W : sProp 𝕄)
      = iprop((aLoc d ↦{fullShare} W a') ∗ (xLoc d ↦{fullShare} W x') ∗ (oLoc d ↦{fullShare} W o') ∗ (zLoc d ↦{fullShare} W z')
          ∗ rLoc d ↦{fullShare} W r') := by
  unfold held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (oLoc d ↦{fullShare} W main_v1) ∗ (zLoc d ↦{fullShare} W main_cst)
          ∗ rLoc d ↦{fullShare} W main_v2) := by
  unfold unscopedBufs
  rw [show (Finset.univ.filter fun b : Ref sig .tc => ¬ b.isScoped) = {main_arg0, main_v0, main_v1, main_cst, main_v2} by decide,
    SparseCore.bigSep_insert' (by decide), SparseCore.bigSep_insert' (by decide), SparseCore.bigSep_insert' (by decide),
    SparseCore.bigSep_insert' (by decide), bigSep_singleton]

/-- The arrays at the launch, and after the call. -/
def V0 (d : Dev nD) : Valuation τ sig (Elt F) := fun b => m (d, b)
def V2 (d : Dev nD) : Valuation τ sig (Elt F) := Function.update ((opFlat (F := F)).result (V0 m d)) o' (O m d)

theorem unscoped_held (d : Dev nD) : (unscopedBufs d (fun b => m ((SparseCore.T d).loc b)) : sProp 𝕄) = held (T d) S5 (V0 m d) := by
  rw [unscopedBufs_eq, held_S5]; rfl

theorem held_V1 (d : Dev nD) :
    (held (T d) S5 ((opFlat (F := F)).result (V0 m d)) : sProp 𝕄)
      = iprop((aLoc d ↦{fullShare} m (aLoc d)) ∗ xPts m d ∗ oPts d (m (oLoc d)) ∗ (zLoc d ↦{fullShare} m (zLoc d)) ∗ rLoc d ↦{fullShare} m (rLoc d)) := by
  rw [held_S5, (opFlat (F := F)).result_of_not_mem (V0 m d) (b := a') (show a' ∉ ({x'} : Finset (DevRef τ sig)) by decide),
    (opFlat (F := F)).result_of_not_mem (V0 m d) (b := o') (show o' ∉ ({x'} : Finset (DevRef τ sig)) by decide),
    (opFlat (F := F)).result_of_not_mem (V0 m d) (b := z') (show z' ∉ ({x'} : Finset (DevRef τ sig)) by decide),
    (opFlat (F := F)).result_of_not_mem (V0 m d) (b := r') (show r' ∉ ({x'} : Finset (DevRef τ sig)) by decide),
    show (opFlat (F := F)).result (V0 m d) x' = X m d from StableHlo.reshape_result ..]
  rfl

theorem V2_a (d : Dev nD) : V2 m d a' = m (aLoc d) := by
  unfold V2
  rw [Function.update_of_ne (by decide), (opFlat (F := F)).result_of_not_mem (V0 m d) (b := a') (show a' ∉ ({x'} : Finset (DevRef τ sig)) by decide)]; rfl
theorem V2_x (d : Dev nD) : V2 m d x' = X m d := by
  unfold V2
  rw [Function.update_of_ne (by decide)]; exact StableHlo.reshape_result ..
theorem V2_o (d : Dev nD) : V2 m d o' = O m d := Function.update_self _ _ _
theorem V2_z (d : Dev nD) : V2 m d z' = m (zLoc d) := by
  unfold V2
  rw [Function.update_of_ne (by decide), (opFlat (F := F)).result_of_not_mem (V0 m d) (b := z') (show z' ∉ ({x'} : Finset (DevRef τ sig)) by decide)]; rfl
theorem V2_r (d : Dev nD) : V2 m d r' = m (rLoc d) := by
  unfold V2
  rw [Function.update_of_ne (by decide), (opFlat (F := F)).result_of_not_mem (V0 m d) (b := r') (show r' ∉ ({x'} : Finset (DevRef τ sig)) by decide)]; rfl

theorem held_V4 (d : Dev nD) :
    (held (T d) S5 ((opSum (F := F)).result ((opZero (F := F)).result (V2 m d))) : sProp 𝕄)
      = iprop((aLoc d ↦{fullShare} m (aLoc d)) ∗ (xLoc d ↦{fullShare} (opSum (F := F)).result ((opZero (F := F)).result (V2 m d)) x')
          ∗ (oLoc d ↦{fullShare} (opSum (F := F)).result ((opZero (F := F)).result (V2 m d)) o')
          ∗ (zLoc d ↦{fullShare} (opSum (F := F)).result ((opZero (F := F)).result (V2 m d)) z')
          ∗ rLoc d ↦{fullShare} R m d) := by
  rw [held_S5, (opSum (F := F)).result_of_not_mem _ (b := a') (show a' ∉ ({r'} : Finset (DevRef τ sig)) by decide),
    (opZero (F := F)).result_of_not_mem _ (b := a') (show a' ∉ ({z'} : Finset (DevRef τ sig)) by decide), V2_a,
    show (opSum (F := F)).result ((opZero (F := F)).result (V2 m d)) r' = R m d from
      (StableHlo.binary_result _ _ _ _ _ _ _ _).trans (by
        rw [(opZero (F := F)).result_of_not_mem _ (b := o') (show o' ∉ ({z'} : Finset (DevRef τ sig)) by decide), V2_o,
          show (opZero (F := F)).result (V2 m d) z' = constant S_ .f32 0x00000000#32 from StableHlo.nullary_result ..]
        rfl)]

theorem st0_eq (d : Dev nD) : (bigSep Finset.univ fun c : Fin ((K (F := F)).nCore 0) => (P m).st 0 d c) = iprop(xPts m d ∗ oPts d (m (oLoc d))) :=
  bigSep_univ_of_subsingleton (0 : Fin 1)
theorem dn0_eq (d : Dev nD) : (bigSep Finset.univ fun c : Fin ((K (F := F)).nCore 0) => (P m).dn 0 d c) = iprop(xPts m d ∗ oPts d (O m d)) :=
  bigSep_univ_of_subsingleton (0 : Fin 1)

theorem hFlat : (opFlat (F := F)).bufs ⊆ S5 := show ({a', x'} : Finset (DevRef τ sig)) ⊆ S5 by decide
theorem hZero : (opZero (F := F)).bufs ⊆ S5 := show ({z'} : Finset (DevRef τ sig)) ⊆ S5 by decide
theorem hSum : (opSum (F := F)).bufs ⊆ S5 := show ({o', z', r'} : Finset (DevRef τ sig)) ⊆ S5 by decide

/-- What `@main` leaves the claims: the argument at its launch contents, the result at the sum. -/
abbrev FIN (d : Dev nD) : sProp 𝕄 := iprop((aLoc d ↦{fullShare} m (aLoc d)) ∗ rLoc d ↦{fullShare} R m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  -- the argument flattened
  iapply (wp_hlo_within 𝒱 (SparseCore.T d) none Set.univ (op := opFlat) (S := S5) hFlat (V := V0 m d)) $$ [Hb Hheld]
  · isplitl [Hb] <;> iassumption
  iintro ⟨Hb, Hheld⟩
  rw [wp_ret]; imodintro
  -- the call
  ihave Hh := (Entails.of_eq (held_V1 (F := F) m d)) $$ Hheld
  icases Hh with ⟨Ha, Hx, Ho, Hz, Hr⟩
  iapply ((K (F := F)).wp_run (D (F := F)) 𝒱 (EH := EH) (P := P m) κ d 0) $$ [Hst Hx Ho Hb Ha Hz Hr Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  -- the zero and the sum
  iapply (wp_hlo_within 𝒱 (SparseCore.T d) none Set.univ (op := opZero) (S := S5) hZero (V := V2 m d)) $$ [Hb Hx Ha Hz Ho Hr]
  · isplitl [Hb]; · iexact Hb
    rw [held_S5, V2_a, V2_x, V2_o, V2_z, V2_r]
    isplitl [Ha]; · iexact Ha
    isplitl [Hx]; · iexact Hx
    isplitl [Ho]; · iexact Ho
    isplitl [Hz]; · iexact Hz
    iexact Hr
  iintro ⟨Hb, Hheld⟩
  rw [wp_ret]; imodintro
  iapply (wp_hlo_within 𝒱 (SparseCore.T d) none Set.univ (op := opSum) (S := S5) hSum (V := (opZero (F := F)).result (V2 m d))) $$ [Hb Hheld]
  · isplitl [Hb] <;> iassumption
  iintro ⟨Hb, Hheld⟩
  ihave Hh := (Entails.of_eq (held_V4 (F := F) m d)) $$ Hheld
  icases Hh with ⟨Ha, -, -, -, Hr⟩
  rw [wp_ret]; imodintro; imodintro
  isplitl [Hst]; · iexact Hst
  isplitr [Hb Hts]
  · isplitl [Ha]; · iexact Ha
    iexact Hr
  isplitl [Hb] <;> iassumption

/-- What the claims read of device `d`'s final state. -/
def fq (d : Dev nD) (s' : Phys nD τ sig (Elt F)) : Prop := s'.mem.mem (rLoc d) = R m d ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (SI_pointsTo_agree (st := s') (ℓ := rLoc d) (I := Finset.univ) (q := fullShare) (f := R m d)) $$ [HSI Hr]
  · isplitl [HSI] <;> iassumption
  icases H with %hr
  ipureintro; exact ⟨funext fun i => hr i (Finset.mem_univ i), funext fun i => ha i (Finset.mem_univ i)⟩

/-! ## The run -/

def QC : PUnit × MemSt nD τ sig (Elt F) → Prop := fun r => (∀ c : Dev nD, r.2.mem (rLoc c) = R m c ∧ r.2.mem (aLoc c) = m (aLoc c)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Diag

end
-- ==== Proof.ExactSums.lean ====
/-
  What one tile of `ExactRootIdeal` computes, as functions of the array that the call reads: the sixteen lanes' running sums
  along sixteen neighbouring diagonals of one 128 × 128 matrix, and the words, offsets and trip counts of the body's five
  loops in closed form.
-/
module

public import proofs.«01_k».proof.Defs
public import proofs.«01_k».proof.Proof.Gen.ExactRootIdeal
public import proofs.«01_k».proof.Proof.Gen.ExactRootIdeal.Skeleton

@[expose] public section

set_option maxRecDepth 16384

noncomputable section

namespace Cert.Proof.Exact

open Cert.ExactRootIdeal Cert.ExactRootIdeal.Gen
open Idealize.ShloMosaic

/-! ## The tile's constants -/

/-- Which half of the diagonals a tile takes: the low bit of its number. -/
abbrev half (i : grid0.Coords) : ℕ := (i 1).val % 2
/-- The matrix a tile reads: two tiles share each. -/
abbrev bat (i : grid0.Coords) : ℕ := (i 1).val / 2

/-- The first diagonal of the tile's chunk `k` of sixteen. -/
def d0 (h : ℕ) (k : Fin 4) : ℕ := if h = 0 then ![1, 17, 97, 113] k else ![33, 49, 65, 81] k
/-- Trips of the loop over four chunks, of the loop over two, and of the loop over one. -/
def n0 (h : ℕ) : ℕ := if h = 0 then 16 else 32
def n1 (h : ℕ) : ℕ := if h = 0 then 40 else 8

theorem trips1 : ∀ i : grid0.Coords, (k0_t1_loop i).trips = n0 (half i) := by decide +kernel
theorem trips2 : ∀ i : grid0.Coords, (k0_t2_loop i).trips = 0 := by decide +kernel
theorem trips3 : ∀ i : grid0.Coords, (k0_t3_loop i).trips = n1 (half i) := by decide +kernel
theorem trips4 : ∀ i : grid0.Coords, (k0_t4_loop i).trips = 0 := by decide +kernel
theorem trips5 : k0_t5_loop.trips = 8 := by decide +kernel

/-! ## The loads' offsets: row `r`'s window of chunk `k` starts at word `129 * r + d0 h k` -/

theorem off1_eq : ∀ i : grid0.Coords, k0_off1 i = ![bat i, 0] := by decide +kernel
theorem off2_eq : ∀ i : grid0.Coords, k0_off2 i = ![bat i, 0] := by decide +kernel
theorem off3_eq : ∀ (i : grid0.Coords) (t : Fin (k0_t1_loop i).trips) (r : Fin 4),
    k0_off3 i t (k0_off3_at r).1 (k0_off3_at r).2 = ![129 * (2 * t.val) + d0 (half i) r] := by decide +kernel
theorem off4_eq : ∀ (i : grid0.Coords) (t : Fin (k0_t1_loop i).trips) (r : Fin 4),
    k0_off4 i t (k0_off4_at r).1 (k0_off4_at r).2 = ![129 * (2 * t.val + 1) + d0 (half i) r] := by decide +kernel
theorem off7_eq : ∀ (i : grid0.Coords) (t : Fin (k0_t3_loop i).trips) (r : Fin 2),
    k0_off7 i t (k0_off7_at r).1 (k0_off7_at r).2 = ![129 * (2 * n0 (half i) + 2 * t.val) + d0 (half i) ⟨r.val, by omega⟩] := by decide +kernel
theorem off8_eq : ∀ (i : grid0.Coords) (t : Fin (k0_t3_loop i).trips) (r : Fin 2),
    k0_off8 i t (k0_off8_at r).1 (k0_off8_at r).2 = ![129 * (2 * n0 (half i) + 2 * t.val + 1) + d0 (half i) ⟨r.val, by omega⟩] := by decide +kernel
theorem off11_eq : ∀ (i : grid0.Coords) (t : Fin k0_t5_loop.trips),
    k0_off11 i t = ![129 * (2 * n0 (half i) + 2 * n1 (half i) + 2 * t.val) + d0 (half i) 0] := by decide +kernel
theorem off12_eq : ∀ (i : grid0.Coords) (t : Fin k0_t5_loop.trips),
    k0_off12 i t = ![129 * (2 * n0 (half i) + 2 * n1 (half i) + 2 * t.val + 1) + d0 (half i) 0] := by decide +kernel

/-! ## The lanes' diagonals -/

theorem dv0 : ∀ (i : grid0.Coords) (l : S16.Idx), k0_pay18 i l = BitVec.ofNat 32 (d0 (half i) 0 + (l 0).val) := by decide +kernel
theorem dv1 : ∀ (i : grid0.Coords) (l : S16.Idx), k0_pay19 i l = BitVec.ofNat 32 (d0 (half i) 1 + (l 0).val) := by decide +kernel
theorem dv2 : ∀ (i : grid0.Coords) (l : S16.Idx), k0_pay20 i l = BitVec.ofNat 32 (d0 (half i) 2 + (l 0).val) := by decide +kernel
theorem dv3 : ∀ (i : grid0.Coords) (l : S16.Idx), k0_pay21 i l = BitVec.ofNat 32 (d0 (half i) 3 + (l 0).val) := by decide +kernel

/-! ## The running sums -/

section Values

variable {F : FTy → Type} [FloatOps F] [Named F]

/-- Word `p` of matrix `b` (zero outside the array). -/
def ent (X : S8x16384.Idx → F .f32) (b p : ℕ) : F .f32 :=
  if h : b < 8 ∧ p < 16384 then X (fun | 0 => ⟨b, h.1⟩ | 1 => ⟨p, h.2⟩) else Scalar.ofBits .f32 0x00000000#32

/-- Row `r`'s elements of the diagonals `d, …, d + 15` of matrix `b`, a lane each: zero where a diagonal has left the matrix. -/
def rowv (X : S8x16384.Idx → F .f32) (b d r : ℕ) : FVec F S16 .f32 := fun l =>
  if d + (l 0).val + r < 128 then ent X b (129 * r + d + (l 0).val) else Scalar.ofBits .f32 0x00000000#32

/-- The sums of the first `n` rows, and of their squares. -/
def sumv (X : S8x16384.Idx → F .f32) (b d : ℕ) : ℕ → FVec F S16 .f32
  | 0 => k0_pay22
  | n + 1 => addf (sumv X b d n) (rowv X b d n)
def sqv (X : S8x16384.Idx → F .f32) (b d : ℕ) : ℕ → FVec F S16 .f32
  | 0 => k0_pay22
  | n + 1 => addf (sqv X b d n) (mulf (rowv X b d n) (rowv X b d n))

/-- The sixteen words that the tile at `i` leaves in its row of the result. -/
def tileVec (X : S8x16384.Idx → F .f32) (i : grid0.Coords) : FVec F S16 .f32 :=
  k0_pay1 (k0_pay21 i) (k0_pay56 (F := F) (k0_pay21 i))
    (k0_pay59 (sumv X (bat i) (d0 (half i) 3) (2 * n0 (half i))) (sqv X (bat i) (d0 (half i) 3) (2 * n0 (half i))) (k0_pay56 (F := F) (k0_pay21 i)))
    (k0_pay60 (k0_pay18 i) (k0_pay19 i) (k0_pay22 (F := F)) (k0_pay53 (F := F) (k0_pay18 i)) (k0_pay54 (F := F) (k0_pay19 i))
      (k0_pay57 (k0_pay18 i) (sumv X (bat i) (d0 (half i) 0) (2 * n0 (half i) + 2 * n1 (half i) + 16)) (sqv X (bat i) (d0 (half i) 0) (2 * n0 (half i) + 2 * n1 (half i) + 16)))
      (k0_pay58 (k0_pay19 i) (sumv X (bat i) (d0 (half i) 1) (2 * n0 (half i) + 2 * n1 (half i))) (sqv X (bat i) (d0 (half i) 1) (2 * n0 (half i) + 2 * n1 (half i)))))
    (k0_pay61 (k0_pay20 i))
    (k0_pay62 (sumv X (bat i) (d0 (half i) 2) (2 * n0 (half i))) (sqv X (bat i) (d0 (half i) 2) (2 * n0 (half i))) (k0_pay55 (F := F) (k0_pay20 i)))

/-- The grid point of tile `s` of the one SparseCore. -/
def coordsV (c : Fin (grid0.bound 0)) (s : Fin (grid0.bound 1)) : grid0.Coords :=
  fun | 0 => c | 1 => s | ⟨_ + 2, h⟩ => absurd h (Nat.not_lt.2 (Nat.le_add_left _ _))

/-- The call's result: row `s` is tile `s`'s. -/
def outv (X : S8x16384.Idx → F .f32) : S16x16.Idx → F .f32 := fun j => tileVec X (coordsV ⟨0, Nat.one_pos⟩ ⟨(j 0).val, (j 0).isLt⟩) (fun | 0 => ⟨(j 1).val, (j 1).isLt⟩)

/-- A load under its mask is the row. -/
theorem select_row (v : IVec S16 32) (w : BitVec 32) (x : Vec F S16 .f32) (X : S8x16384.Idx → F .f32) (b d r : ℕ)
    (hv : ∀ l, v l = BitVec.ofNat 32 (d + (l 0).val)) (hw : w = BitVec.ofNat 32 r) (hd : d + r < 1000)
    (hx : ∀ l : S16.Idx, d + (l 0).val + r < 128 → x l = ent X b (129 * r + d + (l 0).val)) :
    select (cmpi .slt (addi v (broadcast S16 w)) (broadcast S16 128#32)) x (broadcast S16 (Scalar.ofBits .f32 0x00000000#32))
      = rowv X b d r := by
  funext l
  have hl : (l 0).val < 16 := (l 0).isLt
  have hb : (BitVec.ofNat 32 (d + (l 0).val) + BitVec.ofNat 32 r : BitVec 32) = BitVec.ofNat 32 (d + (l 0).val + r) := by
    rw [← BitVec.ofNat_add]
  have hc : IntOp.cmpi .slt (BitVec.ofNat 32 (d + (l 0).val + r)) 128#32 = if d + (l 0).val + r < 128 then 1#1 else 0#1 := by
    have : (BitVec.ofNat 32 (d + (l 0).val + r)).toInt = ((d + (l 0).val + r : ℕ) : ℤ) := by
      rw [BitVec.toInt_eq_toNat_of_lt (by rw [BitVec.toNat_ofNat]; omega), BitVec.toNat_ofNat, Nat.mod_eq_of_lt (by omega)]
    have h128 : (128#32).toInt = 128 := by decide
    simp only [IntOp.cmpi, BitVec.slt, this, h128]
    by_cases h : d + (l 0).val + r < 128
    · rw [if_pos h, decide_eq_true (by exact_mod_cast h)]; rfl
    · rw [if_neg h, decide_eq_false (by exact_mod_cast h)]; rfl
  show Scalar.select (IntOp.cmpi .slt (v l + w) 128#32) (x l) _ = _
  rw [hv, hw, hb, hc]
  unfold rowv
  by_cases h : d + (l 0).val + r < 128
  · rw [if_pos h, if_pos h]; exact (hx l h)
  · rw [if_neg h, if_neg h]; rfl

end Values

end Cert.Proof.Exact

end
-- ==== Proof.ExactLaunch.lean ====
/-
  The launch of `ExactRootIdeal`'s one SparseCore call: the program as the launch theorem sees it, the arrays the call reads and
  writes, and what the handshakes carry. Every tile reads the whole operand through a share of its own and takes its row of
  the result; it hands back the row at the tile's sums.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.ExactSums

@[expose] public section

set_option maxRecDepth 16384

noncomputable section

namespace Cert.Proof.Exact

open Cert.ExactRootIdeal Cert.ExactRootIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The argument, the operand of the call (the argument with each matrix flat), the call's result, and the program's. -/
abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

theorem hdiv : 16 ∣ S16x16.size 0 := ⟨1, rfl⟩
/-- Row `s` of the result: tile `s`'s. -/
abbrev row (s : Fin 16) : Rect S16x16 := Rect.part (s := S16x16) (a₀ := 0) hdiv s
abbrev rowSet (s : Fin 16) : Finset S16x16.Idx := ((View.whole (main_v1_scv : Ref sig .scVector)).slice (row s)).set

/-- The call's operand. -/
def X (d : Dev nD) : S8x16384.Idx → F .f32 := shapeCast S8x16384 (m (aLoc d) : S8x128x128.Idx → F .f32) shapeCasts_S8x128x128_S8x16384
/-- The call's result. -/
def O (d : Dev nD) : S16x16.Idx → F .f32 := outv (X m d)

/-- Tile `s`'s share of the operand, and what is left of it. -/
abbrev xq (s : Fin 16) : PosShare TreeShare := Transfers.shareTok fullShare 16 s
abbrev xRest : PosShare TreeShare := Transfers.shareDrop fullShare 16

abbrev xPts (d : Dev nD) : sProp 𝕄 := xLoc d ↦{fullShare} X m d
abbrev xTok (d : Dev nD) (s : Fin 16) : sProp 𝕄 := xLoc d ↦{xq s} X m d
abbrev oPts (d : Dev nD) (f : Buf (Elt F) (oLoc d)) : sProp 𝕄 := oLoc d ↦{fullShare} f
abbrev oRowPts (d : Dev nD) (s : Fin 16) (f : Buf (Elt F) (oLoc d)) : sProp 𝕄 := oLoc d ↦[rowSet s]{fullShare} f

/-- The call takes the operand and the result whole and brings them back, the result at the tiles' rows; each tile takes its
    share of the operand and its row of the result. -/
def P : (K (F := F)).Pay (nD := nD) (Val := Elt F) (Name := ℕ) (U := UU) where
  st := fun q d _ => match q with | 0 => iprop(xPts m d ∗ oPts d (m (oLoc d)))
  dn := fun q d _ => match q with | 0 => iprop(xPts m d ∗ oPts d (O m d))
  go := fun q d _ i => match q with
    | 0 => iprop(xTok m d (Fin.cast nSub_zero i) ∗ oRowPts d (Fin.cast nSub_zero i) (m (oLoc d)))
  td := fun q d _ i => match q with
    | 0 => iprop(xTok m d (Fin.cast nSub_zero i) ∗ oRowPts d (Fin.cast nSub_zero i) (O m d))
  x := fun _ _ => iprop(emp)

instance P_storable : (P (F := F) m).IsStorable where
  st q d _ := match q with
    | 0 => (inferInstance : BI.Storable (upEmb : UEmb _ 𝕄) iprop(xPts m d ∗ oPts d (m (oLoc d))))
  dn q d _ := match q with
    | 0 => (inferInstance : BI.Storable (upEmb : UEmb _ 𝕄) iprop(xPts m d ∗ oPts d (O m d)))
  go q d _ i := match q with
    | 0 => (inferInstance : BI.Storable (upEmb : UEmb _ 𝕄) iprop(xTok m d (Fin.cast nSub_zero i) ∗ oRowPts d (Fin.cast nSub_zero i) (m (oLoc d))))
  td q d _ i := match q with
    | 0 => (inferInstance : BI.Storable (upEmb : UEmb _ 𝕄) iprop(xTok m d (Fin.cast nSub_zero i) ∗ oRowPts d (Fin.cast nSub_zero i) (O m d)))

end Cert.Proof.Exact

end
-- ==== Proof.ExactWalk.lean ====
/-
  The five loops of a tile over the words that it fetched: their sums in closed form.
-/
module

public import proofs.«01_k».proof.Proof.ExactLaunch

@[expose] public section

set_option maxRecDepth 16384

noncomputable section

namespace Cert.Proof.Exact

open Cert.ExactRootIdeal Cert.ExactRootIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "xV" => (Memref.whole Cert.ExactRootIdeal.main_v0_scv : Memref Cert.ExactRootIdeal.sig Kind.scVector Space.hbm Cert.ExactRootIdeal.S8x16384 EltTy.f32)
local notation "oV" => (Memref.whole Cert.ExactRootIdeal.main_v1_scv : Memref Cert.ExactRootIdeal.sig Kind.scVector Space.hbm Cert.ExactRootIdeal.S16x16 EltTy.f32)
local notation "sB" => (Memref.whole Cert.ExactRootIdeal.cc0_scratch0 : Memref Cert.ExactRootIdeal.sig Kind.scVector Space.vmem Cert.ExactRootIdeal.S16448 EltTy.f32)
local notation "sR" => (Memref.whole Cert.ExactRootIdeal.cc0_scratch1 : Memref Cert.ExactRootIdeal.sig Kind.scVector Space.vmem Cert.ExactRootIdeal.S16 EltTy.f32)

abbrev cV (L : grid0.Coords) : Fin τ.nSC := (L 0).castLE hcore0
abbrev jV (L : grid0.Coords) : Fin τ.nSub := (L 1).castLE hsub0

/-- How many words of its row a tile fetches. -/
def lim (h : ℕ) : ℕ := if h = 0 then 16256 else 12160

/-- The buffer's first `lim` words are matrix `b`'s. -/
def Held (X : S8x16384.Idx → F .f32) (b n : ℕ) (f : S16448.Idx → F .f32) : Prop :=
  ∀ p : S16448.Idx, (p 0).val < n → f p = ent X b (p 0).val

variable (d : Dev nD) (L : grid0.Coords)

theorem half_lt : half L < 2 := Nat.mod_lt _ (by decide)

/-- A window of a row's diagonals, loaded: its lanes are the row's words, as far as the diagonals are in the matrix. -/
theorem load_row (f : Buf (Elt F) ((sB).view.loc (V d (cV L) (jV L)))) (X : S8x16384.Idx → F .f32) (hf : Held X (bat L) (lim (half L)) f)
    (k : Fin 4) (r : ℕ) (off : Fin 1 → ℕ) (inb) (ho : off = ![129 * r + d0 (half L) k]) (l : S16.Idx) (hl : d0 (half L) k + (l 0).val + r < 128) :
    (sB).view.readAt (Elt F) (Rect.unit (s := S16448) off S16.size inb).toLoadRect f l = ent X (bat L) (129 * r + d0 (half L) k + (l 0).val) := by
  subst ho
  have hb : 129 * r + d0 (half L) k + (l 0).val < lim (half L) := by
    have hh : half L = 0 ∨ half L = 1 := by have := half_lt L; omega
    have hd : d0 (half L) k ≥ (if half L = 0 then 1 else 33) := by
      unfold d0; rcases hh with e | e <;> rw [e] <;> fin_cases k <;> decide
    unfold lim
    rcases hh with e | e
    · rw [if_pos e] at hd ⊢; omega
    · rw [if_neg (by omega)] at hd ⊢; omega
  have e : (((Rect.unit (s := S16448) ![129 * r + d0 (half L) k] S16.size inb).toLoadRect.idx l : S16448.Idx) 0).val = 129 * r + d0 (half L) k + (l 0).val := by
    show (129 * r + d0 (half L) k) + 1 * (l 0).val = _
    rw [Nat.one_mul]
  refine (hf ((Rect.unit (s := S16448) ![129 * r + d0 (half L) k] S16.size inb).toLoadRect.idx l) (by rw [e]; exact hb)).trans ?_
  rw [e]

/-- The window whole, where all its diagonals are in the matrix. -/
theorem load_row_all (f : Buf (Elt F) ((sB).view.loc (V d (cV L) (jV L)))) (X : S8x16384.Idx → F .f32) (hf : Held X (bat L) (lim (half L)) f)
    (k : Fin 4) (r : ℕ) (off : Fin 1 → ℕ) (inb) (ho : off = ![129 * r + d0 (half L) k]) (hr : d0 (half L) k + 15 + r < 128) :
    (sB).view.readAt (Elt F) (Rect.unit (s := S16448) off S16.size inb).toLoadRect f = rowv X (bat L) (d0 (half L) k) r := by
  funext l
  have hl : d0 (half L) k + (l 0).val + r < 128 := by have : (l 0).val < 16 := (l 0).isLt; omega
  rw [load_row d L f X hf k r off inb ho l hl]
  unfold rowv
  rw [if_pos hl]

/-! ## One trip's sums -/

section Trip
variable (X : S8x16384.Idx → F .f32) (b e r : ℕ) (w₁ w₂ : FVec F S16 .f32)

theorem sum_two (h₁ : w₁ = rowv X b e r) (h₂ : w₂ = rowv X b e (r + 1)) : addf (addf (sumv X b e r) w₁) w₂ = sumv X b e (r + 2) := by
  subst h₁ h₂; rfl
theorem sq_two (h₁ : w₁ = rowv X b e r) (h₂ : w₂ = rowv X b e (r + 1)) :
    addf (addf (sqv X b e r) (mulf w₁ w₁)) (mulf w₂ w₂) = sqv X b e (r + 2) := by
  subst h₁ h₂; rfl
end Trip

theorem word1 : ∀ t : Fin 64, Scalar.addi 0#32 (Scalar.muli (Scf.iv 0#32 1#32 t.val) 2#32) = BitVec.ofNat 32 (2 * t.val) := by decide +kernel
theorem word1' : ∀ t : Fin 64, Scalar.addi (Scalar.addi 0#32 (Scalar.muli (Scf.iv 0#32 1#32 t.val) 2#32)) 1#32 = BitVec.ofNat 32 (2 * t.val + 1) := by
  decide +kernel
theorem word3 : ∀ (h : Fin 2) (t : Fin 64), Scalar.addi (Scalar.addi 0#32 (Scalar.muli (BitVec.ofNat 32 (n0 h)) 2#32)) (Scalar.muli (Scf.iv 0#32 1#32 t.val) 2#32)
    = BitVec.ofNat 32 (2 * n0 h + 2 * t.val) := by decide +kernel
theorem word3' : ∀ (h : Fin 2) (t : Fin 64), Scalar.addi (Scalar.addi (Scalar.addi 0#32 (Scalar.muli (BitVec.ofNat 32 (n0 h)) 2#32)) (Scalar.muli (Scf.iv 0#32 1#32 t.val) 2#32)) 1#32
    = BitVec.ofNat 32 (2 * n0 h + 2 * t.val + 1) := by decide +kernel
theorem word5 : ∀ (h : Fin 2) (t : Fin 64), Scalar.addi (Scalar.addi (Scalar.addi 0#32 (Scalar.muli (BitVec.ofNat 32 (n0 h)) 2#32)) (Scalar.muli (BitVec.ofNat 32 (n1 h)) 2#32))
      (Scalar.muli (Scf.iv 0#32 1#32 t.val) 2#32)
    = BitVec.ofNat 32 (2 * n0 h + 2 * n1 h + 2 * t.val) := by decide +kernel
theorem word5' : ∀ (h : Fin 2) (t : Fin 64), Scalar.addi (Scalar.addi (Scalar.addi (Scalar.addi 0#32 (Scalar.muli (BitVec.ofNat 32 (n0 h)) 2#32)) (Scalar.muli (BitVec.ofNat 32 (n1 h)) 2#32))
      (Scalar.muli (Scf.iv 0#32 1#32 t.val) 2#32)) 1#32
    = BitVec.ofNat 32 (2 * n0 h + 2 * n1 h + 2 * t.val + 1) := by decide +kernel

theorem d0_lt (h : ℕ) (k : Fin 4) : d0 h k < 128 := by unfold d0; split <;> fin_cases k <;> decide
theorem n0_le (h : ℕ) : n0 h ≤ 32 := by unfold n0; split <;> decide
theorem n1_le (h : ℕ) : n1 h ≤ 40 := by unfold n1; split <;> decide

/-- A masked window is the row. -/
theorem masked_row (f : Buf (Elt F) ((sB).view.loc (V d (cV L) (jV L)))) (X : S8x16384.Idx → F .f32) (hf : Held X (bat L) (lim (half L)) f)
    (k : Fin 4) (r : ℕ) (off : Fin 1 → ℕ) (inb) (ho : off = ![129 * r + d0 (half L) k]) (v : IVec S16 32)
    (hv : ∀ l, v l = BitVec.ofNat 32 (d0 (half L) k + (l 0).val)) (w : BitVec 32) (hw : w = BitVec.ofNat 32 r) (hr : r < 200) :
    select (cmpi .slt (addi v (broadcast S16 w)) (broadcast S16 128#32))
        ((sB).view.readAt (Elt F) (Rect.unit (s := S16448) off S16.size inb).toLoadRect f) (broadcast S16 (Scalar.ofBits .f32 0x00000000#32))
      = rowv X (bat L) (d0 (half L) k) r :=
  select_row v w _ X (bat L) (d0 (half L) k) r hv hw (by have := d0_lt (half L) k; omega)
    fun l hl => load_row d L f X hf k r off inb ho l hl

/-! ## The loops' invariants -/

/-- The first loop's: after `t` trips, `2 t` rows of all four chunks. -/
def inv1 (X : S8x16384.Idx → F .f32) (f : Buf (Elt F) ((sB).view.loc (V d (cV L) (jV L)))) (t : ℕ)
    (a : FVec F S16 .f32 × FVec F S16 .f32 × FVec F S16 .f32 × FVec F S16 .f32 × FVec F S16 .f32 × FVec F S16 .f32 × FVec F S16 .f32 × FVec F S16 .f32) : sProp 𝕄 :=
  iprop(⌜a = (sumv X (bat L) (d0 (half L) 0) (2 * t), sqv X (bat L) (d0 (half L) 0) (2 * t),
      sumv X (bat L) (d0 (half L) 1) (2 * t), sqv X (bat L) (d0 (half L) 1) (2 * t),
      sumv X (bat L) (d0 (half L) 2) (2 * t), sqv X (bat L) (d0 (half L) 2) (2 * t),
      sumv X (bat L) (d0 (half L) 3) (2 * t), sqv X (bat L) (d0 (half L) 3) (2 * t))⌝
    ∗ ((sB).view.loc (V d (cV L) (jV L)) ↦{fullShare} f))

/-- The third loop's: two chunks, from where the first loop left them. -/
def inv3 (X : S8x16384.Idx → F .f32) (f : Buf (Elt F) ((sB).view.loc (V d (cV L) (jV L)))) (t : ℕ)
    (a : FVec F S16 .f32 × FVec F S16 .f32 × FVec F S16 .f32 × FVec F S16 .f32) : sProp 𝕄 :=
  iprop(⌜a = (sumv X (bat L) (d0 (half L) 0) (2 * n0 (half L) + 2 * t), sqv X (bat L) (d0 (half L) 0) (2 * n0 (half L) + 2 * t),
      sumv X (bat L) (d0 (half L) 1) (2 * n0 (half L) + 2 * t), sqv X (bat L) (d0 (half L) 1) (2 * n0 (half L) + 2 * t))⌝
    ∗ ((sB).view.loc (V d (cV L) (jV L)) ↦{fullShare} f))

/-- The last loop's: the longest diagonals. -/
def inv5 (X : S8x16384.Idx → F .f32) (f : Buf (Elt F) ((sB).view.loc (V d (cV L) (jV L)))) (t : ℕ)
    (a : FVec F S16 .f32 × FVec F S16 .f32) : sProp 𝕄 :=
  iprop(⌜a = (sumv X (bat L) (d0 (half L) 0) (2 * n0 (half L) + 2 * n1 (half L) + 2 * t), sqv X (bat L) (d0 (half L) 0) (2 * n0 (half L) + 2 * n1 (half L) + 2 * t))⌝
    ∗ ((sB).view.loc (V d (cV L) (jV L)) ↦{fullShare} f))

/-- What the five loops return. -/
def sums (X : S8x16384.Idx → F .f32) (L : grid0.Coords) :
    Σ' (v33_4 : FVec F S16 .f32) (v33_5 : FVec F S16 .f32) (v33_6 : FVec F S16 .f32) (v33_7 : FVec F S16 .f32) (v50 : FVec F S16 .f32) (v53 : FVec F S16 .f32) (v56 : FVec F S16 .f32) (v59 : FVec F S16 .f32) (v67 : FVec F S16 .f32), FVec F S16 .f32 :=
  ⟨sumv X (bat L) (d0 (half L) 2) (2 * n0 (half L)), sqv X (bat L) (d0 (half L) 2) (2 * n0 (half L)),
    sumv X (bat L) (d0 (half L) 3) (2 * n0 (half L)), sqv X (bat L) (d0 (half L) 3) (2 * n0 (half L)),
    k0_pay53 (F := F) (k0_pay18 L), k0_pay54 (F := F) (k0_pay19 L), k0_pay55 (F := F) (k0_pay20 L), k0_pay56 (F := F) (k0_pay21 L),
    k0_pay57 (k0_pay18 L) (sumv X (bat L) (d0 (half L) 0) (2 * n0 (half L) + 2 * n1 (half L) + 16)) (sqv X (bat L) (d0 (half L) 0) (2 * n0 (half L) + 2 * n1 (half L) + 16)),
    k0_pay58 (k0_pay19 L) (sumv X (bat L) (d0 (half L) 1) (2 * n0 (half L) + 2 * n1 (half L))) (sqv X (bat L) (d0 (half L) 1) (2 * n0 (half L) + 2 * n1 (half L)))⟩

theorem part4_run (X : S8x16384.Idx → F .f32) (f : Buf (Elt F) ((sB).view.loc (V d (cV L) (jV L)))) (hf : Held X (bat L) (lim (half L)) f)
    (v7 v9 v11 v13 v30 : BitVec 32) (v23 v25 : BitVec 32) (h23 : v23 = BitVec.ofNat 32 (n0 (half L))) (h25 : v25 = BitVec.ofNat 32 (n1 (half L))) :
    ((sB).view.loc (V d (cV L) (jV L)) ↦{fullShare} f : sProp 𝕄)
      ⊢ wp frame (wpE (defs₀ (F := F)) 𝒱₀ (V d (cV L) (jV L)) none) Set.univ
          (k0_part4 L xV (Memref.isWhole_whole _) oV (Memref.isWhole_whole _) sB (Memref.isWhole_whole _) sR (Memref.isWhole_whole _)
            cc0_scoped0 cc0_scoped1 cc0_scoped2 v7 v9 v11 v13 (k0_pay18 L) (k0_pay19 L) (k0_pay20 L) (k0_pay21 L) v23 v25 k0_pay22 0#32 v30)
          fun r => iprop(⌜r = sums X L⌝ ∗ ((sB).view.loc (V d (cV L) (jV L)) ↦{fullShare} f)) := by
  rw [k0_part4_eq_skeleton]; unfold k0_part4_skel
  subst h23 h25
  have hh := half_lt L
  have hn0 := n0_le (half L)
  have hn1 := n1_le (half L)
  iintro Hs
  sl_exec
  sl_for (inv1 d L X f) $$ [Hs]
  case region =>
    intro k a
    unfold inv1
    have hk : k.val < n0 (half L) := trips1 L ▸ k.isLt
    iintro ⟨%ha, Hs⟩
    subst ha
    sl_exec
    sl_step
    isplitr [Hs]
    · ipureintro
      have hw : (⟨half L, hh⟩ : Fin 2).val = half L := rfl
      simp only [Prod.mk.injEq]
      have hb0 : d0 (half L) 0 + 15 + (2 * k.val + 1) < 128 := by unfold n0 at hk; unfold d0; split at hk <;> rename_i e <;> simp [e] <;> omega
      have hb1 : d0 (half L) 1 + 15 + (2 * k.val + 1) < 128 := by unfold n0 at hk; unfold d0; split at hk <;> rename_i e <;> simp [e] <;> omega
      have a0 := load_row_all d L f X hf 0 (2 * k.val) _ (k0_off3_inb L k 0) (off3_eq L k 0) (by omega)
      have a0' := load_row_all d L f X hf 0 (2 * k.val + 1) _ (k0_off4_inb L k 0) (off4_eq L k 0) (by omega)
      have a1 := load_row_all d L f X hf 1 (2 * k.val) _ (k0_off3_inb L k 1) (off3_eq L k 1) (by omega)
      have a1' := load_row_all d L f X hf 1 (2 * k.val + 1) _ (k0_off4_inb L k 1) (off4_eq L k 1) (by omega)
      have a2 := masked_row d L f X hf 2 (2 * k.val) _ (k0_off3_inb L k 2) (off3_eq L k 2) (k0_pay20 L) (dv2 L) _ (word1 ⟨k.val, by omega⟩) (by omega)
      have a2' := masked_row d L f X hf 2 (2 * k.val + 1) _ (k0_off4_inb L k 2) (off4_eq L k 2) (k0_pay20 L) (dv2 L) _ (word1' ⟨k.val, by omega⟩) (by omega)
      have a3 := masked_row d L f X hf 3 (2 * k.val) _ (k0_off3_inb L k 3) (off3_eq L k 3) (k0_pay21 L) (dv3 L) _ (word1 ⟨k.val, by omega⟩) (by omega)
      have a3' := masked_row d L f X hf 3 (2 * k.val + 1) _ (k0_off4_inb L k 3) (off4_eq L k 3) (k0_pay21 L) (dv3 L) _ (word1' ⟨k.val, by omega⟩) (by omega)
      exact ⟨sum_two X _ _ _ _ _ a0 a0', sq_two X _ _ _ _ _ a0 a0', sum_two X _ _ _ _ _ a1 a1', sq_two X _ _ _ _ _ a1 a1',
        sum_two X _ _ _ _ _ a2 a2', sq_two X _ _ _ _ _ a2 a2', sum_two X _ _ _ _ _ a3 a3', sq_two X _ _ _ _ _ a3 a3'⟩
    · iexact Hs
  · unfold inv1
    isplitr
    · ipureintro; rfl
    · iexact Hs
  iintro %a HI
  unfold inv1
  icases HI with ⟨%ha, Hs⟩
  rw [show Scf.trips (k0_t1_loop L).lb (k0_t1_loop L).ub (k0_t1_loop L).st = n0 (half L) from trips1 L] at ha
  subst ha
  sl_exec
  sl_for (fun _ => inv1 d L X f (n0 (half L))) $$ [Hs]
  case region =>
    intro k a
    exact absurd (trips2 L ▸ k.isLt : k.val < 0) (Nat.not_lt_zero _)
  · unfold inv1
    isplitr
    · ipureintro; rfl
    · iexact Hs
  iintro %a HI
  unfold inv1
  icases HI with ⟨%ha, Hs⟩
  subst ha
  sl_exec
  sl_for (inv3 d L X f) $$ [Hs]
  case region =>
    intro k a
    unfold inv3
    have hk : k.val < n1 (half L) := trips3 L ▸ k.isLt
    iintro ⟨%ha, Hs⟩
    subst ha
    sl_exec
    sl_step
    isplitr [Hs]
    · ipureintro
      simp only [Prod.mk.injEq]
      have hb0 : d0 (half L) 0 + 15 + (2 * n0 (half L) + 2 * k.val + 1) < 128 := by
        unfold n1 at hk; unfold d0 n0; split at hk <;> rename_i e <;> simp [e] <;> omega
      have a0 := load_row_all d L f X hf 0 (2 * n0 (half L) + 2 * k.val) _ (k0_off7_inb L k 0) (off7_eq L k 0) (by omega)
      have a0' := load_row_all d L f X hf 0 (2 * n0 (half L) + 2 * k.val + 1) _ (k0_off8_inb L k 0) (off8_eq L k 0) (by omega)
      have a1 := masked_row d L f X hf 1 (2 * n0 (half L) + 2 * k.val) _ (k0_off7_inb L k 1) (off7_eq L k 1) (k0_pay19 L) (dv1 L) _
        (word3 ⟨half L, hh⟩ ⟨k.val, by omega⟩) (by omega)
      have a1' := masked_row d L f X hf 1 (2 * n0 (half L) + 2 * k.val + 1) _ (k0_off8_inb L k 1) (off8_eq L k 1) (k0_pay19 L) (dv1 L) _
        (word3' ⟨half L, hh⟩ ⟨k.val, by omega⟩) (by omega)
      exact ⟨sum_two X _ _ _ _ _ a0 a0', sq_two X _ _ _ _ _ a0 a0', sum_two X _ _ _ _ _ a1 a1', sq_two X _ _ _ _ _ a1 a1'⟩
    · iexact Hs
  · unfold inv3
    isplitr
    · ipureintro; rfl
    · iexact Hs
  iintro %a HI
  unfold inv3
  icases HI with ⟨%ha, Hs⟩
  rw [show Scf.trips (k0_t3_loop L).lb (k0_t3_loop L).ub (k0_t3_loop L).st = n1 (half L) from trips3 L] at ha
  subst ha
  sl_exec
  sl_for (fun _ => inv3 d L X f (n1 (half L))) $$ [Hs]
  case region =>
    intro k a
    exact absurd (trips4 L ▸ k.isLt : k.val < 0) (Nat.not_lt_zero _)
  · unfold inv3
    isplitr
    · ipureintro; rfl
    · iexact Hs
  iintro %a HI
  unfold inv3
  icases HI with ⟨%ha, Hs⟩
  subst ha
  sl_exec
  sl_for (inv5 d L X f) $$ [Hs]
  case region =>
    intro k a
    unfold inv5
    have hk : k.val < 8 := trips5 ▸ k.isLt
    iintro ⟨%ha, Hs⟩
    subst ha
    sl_exec
    sl_step
    isplitr [Hs]
    · ipureintro
      simp only [Prod.mk.injEq]
      have a0 := masked_row d L f X hf 0 (2 * n0 (half L) + 2 * n1 (half L) + 2 * k.val) _ (k0_off11_inb L k) (off11_eq L k) (k0_pay18 L) (dv0 L) _
        (word5 ⟨half L, hh⟩ ⟨k.val, by omega⟩) (by omega)
      have a0' := masked_row d L f X hf 0 (2 * n0 (half L) + 2 * n1 (half L) + 2 * k.val + 1) _ (k0_off12_inb L k) (off12_eq L k) (k0_pay18 L) (dv0 L) _
        (word5' ⟨half L, hh⟩ ⟨k.val, by omega⟩) (by omega)
      exact ⟨sum_two X _ _ _ _ _ a0 a0', sq_two X _ _ _ _ _ a0 a0'⟩
    · iexact Hs
  · unfold inv5
    isplitr
    · ipureintro; rfl
    · iexact Hs
  iintro %a HI
  unfold inv5
  icases HI with ⟨%ha, Hs⟩
  rw [show Scf.trips k0_t5_loop.lb k0_t5_loop.ub k0_t5_loop.st = 8 from trips5] at ha
  subst ha
  sl_exec
  sl_step
  isplitr
  · ipureintro; rfl
  · iexact Hs

end Cert.Proof.Exact

end
-- ==== Proof.ExactTile.lean ====
/-
  One tile's task, run once at a symbolic tile number, with the values it leaves.
-/
module

public import proofs.«01_k».proof.Proof.ExactWalk

@[expose] public section

set_option maxRecDepth 16384

noncomputable section

namespace Cert.Proof.Exact

open Cert.ExactRootIdeal Cert.ExactRootIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "xV" => (Memref.whole Cert.ExactRootIdeal.main_v0_scv : Memref Cert.ExactRootIdeal.sig Kind.scVector Space.hbm Cert.ExactRootIdeal.S8x16384 EltTy.f32)
local notation "oV" => (Memref.whole Cert.ExactRootIdeal.main_v1_scv : Memref Cert.ExactRootIdeal.sig Kind.scVector Space.hbm Cert.ExactRootIdeal.S16x16 EltTy.f32)
local notation "sB" => (Memref.whole Cert.ExactRootIdeal.cc0_scratch0 : Memref Cert.ExactRootIdeal.sig Kind.scVector Space.vmem Cert.ExactRootIdeal.S16448 EltTy.f32)
local notation "sR" => (Memref.whole Cert.ExactRootIdeal.cc0_scratch1 : Memref Cert.ExactRootIdeal.sig Kind.scVector Space.vmem Cert.ExactRootIdeal.S16 EltTy.f32)

variable (m : (ℓ : Loc nD τ sig) → Buf (Elt F) ℓ) (d : Dev nD) (L : grid0.Coords)

theorem bound_one : grid0.bound 1 = 16 := rfl
abbrev jL (L : grid0.Coords) : Fin 16 := Fin.cast bound_one (L 1)

/-- The row of the result that the body addresses. -/
abbrev rowK (L : grid0.Coords) : Rect S16x16 := Rect.unit (s := S16x16) (k0_off13 L) S1x16.size (k0_off13_inb L)
abbrev oRowK (L : grid0.Coords) : Memref sig .scVector .hbm S16 .f32 := ((oV).slice (rowK L) (fun _ => rfl)).squeeze S16 squeezes_S1x16_S16

theorem rowK_eq : rowK L = row (jL L) := by
  unfold rowK row Rect.part Rect.block
  congr 1 <;> funext a
  · rw [k0_off13_eq]
    match a with
    | 0 => simp [Shape.partIx, Shape.partSize]
    | 1 => simp [Shape.partIx, Shape.partSize]
  · match a with
    | 0 => simp [Shape.partSize]
    | 1 => simp [Shape.partSize]

theorem set_oRowK : (oRowK L).view.set = rowSet (jL L) := by
  show (((oV).view.slice (rowK L)).reshape S16 squeezes_S1x16_S16.numel_eq).set = ((oV).view.slice (row (jL L))).set
  rw [View.set_reshape]
  exact rowK_eq L ▸ rfl

theorem pts_oRowK (f : Buf (Elt F) (oLoc d)) :
    ((oRowK L).view.loc (V d (cV L) (jV L)) ↦[(oRowK L).view.set]{fullShare} f : sProp 𝕄) = oLoc d ↦[rowSet (jL L)]{fullShare} f := by
  rw [set_oRowK]
theorem pts_x (q : PosShare TreeShare) (f : Buf (Elt F) (xLoc d)) :
    ((xV).view.loc (V d (cV L) (jV L)) ↦{q} f : sProp 𝕄) = xLoc d ↦{q} f := rfl
theorem pts_sB (f : Buf (Elt F) ((V d (cV L) (jV L)).loc cc0_scratch0)) :
    ((sB).view.loc (V d (cV L) (jV L)) ↦{fullShare} f : sProp 𝕄) = (V d (cV L) (jV L)).loc cc0_scratch0 ↦{fullShare} f := rfl
theorem pts_sR (f : Buf (Elt F) ((V d (cV L) (jV L)).loc cc0_scratch1)) :
    ((sR).view.loc (V d (cV L) (jV L)) ↦{fullShare} f : sProp 𝕄) = (V d (cV L) (jV L)).loc cc0_scratch1 ↦{fullShare} f := rfl

/-- The three transfers' cells: the two copies in (one per branch) and the copy out. -/
abbrev c0cell (d : Dev nD) (c : Fin τ.nSC) (i : Fin τ.nSub) : GSem nD τ sig := (V d c i, .dma cc0_scoped0.sem)
abbrev c1cell (d : Dev nD) (c : Fin τ.nSC) (i : Fin τ.nSub) : GSem nD τ sig := (V d c i, .dma cc0_scoped1.sem)
abbrev c2cell (d : Dev nD) (c : Fin τ.nSC) (i : Fin τ.nSub) : GSem nD τ sig := (V d c i, .dma cc0_scoped2.sem)

theorem ownSems0_V :
    (ownSems0 (V d (cV L) (jV L)) : sProp 𝕄)
      = iprop(semVal (c0cell d (cV L) (jV L)) 0 ∗ semVal (c1cell d (cV L) (jV L)) 0 ∗ semVal (c2cell d (cV L) (jV L)) 0
          ∗ bigSep ((((ownCells (V d (cV L) (jV L))).erase (c0cell d (cV L) (jV L))).erase (c1cell d (cV L) (jV L))).erase (c2cell d (cV L) (jV L)))
              fun g => semVal g 0) := by
  unfold SparseCore.Cfg.ownSems0
  rw [SparseCore.bigSep_erase' ((mem_ownCells (g := c0cell d (cV L) (jV L))).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc0_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d (cV L) (jV L))).mpr ⟨rfl, by show (SemLoc.dma cc0_scoped2.sem : SemLoc sig).isScoped .scVector = true; decide⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

instance closedOff1 (i : grid0.Coords) : ClosedOff (k0_off1 i) := ⟨![bat i, 0], off1_eq i⟩
instance closedOff2 (i : grid0.Coords) : ClosedOff (k0_off2 i) := ⟨![bat i, 0], off2_eq i⟩

/-- A fetched prefix of matrix `b` is held. -/
theorem held_fetch (X : S8x16384.Idx → F .f32) (b n : ℕ) (fs : Buf (Elt F) ((sB).view.loc (V d (cV L) (jV L)))) (sz : Fin 1 → ℕ) (hsz : sz = ![n]) (inb)
    (w : (Rect.unit (s := S16448) ![0] sz inb).shape.Idx → F .f32) (hw : ∀ x, w x = ent X b (x 0).val) :
    Held X b n ((sB).view.writes (Elt F) fs [⟨Rect.unit (s := S16448) ![0] sz inb, w⟩]) := by
  subst hsz
  intro p hp
  refine (View.read_writes_cons_hit_of_coords (Val := Elt F) (sB).view fs (Rect.unit (s := S16448) ![0] ![n] inb) w [] (fun | 0 => ⟨(p 0).val, hp⟩) p ?_).trans (hw _)
  intro a
  match a with
  | 0 => show (p 0).val = 0 + 1 * (p 0).val; omega

/-- The words that the body computes from its tile number. -/
def Words (r : Σ' (v7 : BitVec 32) (v9 : BitVec 32) (v11 : BitVec 32) (v13 : BitVec 32) (v15 : IVec S16 32) (v17 : IVec S16 32) (v19 : IVec S16 32) (v21 : IVec S16 32) (v23 : BitVec 32) (v25 : BitVec 32) (v26 : FVec F S16 .f32) (c0_i32_10 : BitVec 32), BitVec 32) : Prop :=
  ∃ v7 v9 v11 v13 v30 : BitVec 32, r = ⟨v7, v9, v11, v13, k0_pay18 L, k0_pay19 L, k0_pay20 L, k0_pay21 L, BitVec.ofNat 32 (n0 (half L)), BitVec.ofNat 32 (n1 (half L)), k0_pay22, 0#32, v30⟩

theorem words_intro (v7 v9 v11 v13 v23 v25 v30 : BitVec 32) (h23 : v23 = BitVec.ofNat 32 (n0 (half L))) (h25 : v25 = BitVec.ofNat 32 (n1 (half L))) :
    Words (F := F) L ⟨v7, v9, v11, v13, k0_pay18 L, k0_pay19 L, k0_pay20 L, k0_pay21 L, v23, v25, k0_pay22, 0#32, v30⟩ := by
  subst h23 h25; exact ⟨v7, v9, v11, v13, v30, rfl⟩
theorem word23 : ∀ L : grid0.Coords, Scalar.select (Scalar.cmpi .eq (Scalar.andi (BitVec.ofNat 32 (L 1).val) 1#32) 0#32) 16#32 32#32 = BitVec.ofNat 32 (n0 (half L)) := by
  decide +kernel
theorem word25 : ∀ L : grid0.Coords, Scalar.select (Scalar.cmpi .eq (Scalar.andi (BitVec.ofNat 32 (L 1).val) 1#32) 0#32) 40#32 8#32 = BitVec.ofNat 32 (n1 (half L)) := by
  decide +kernel
theorem lim_taken : ∀ L : grid0.Coords, k0_cond1 L = 1#1 → lim (half L) = 12160 := by decide +kernel
theorem lim_other : ∀ L : grid0.Coords, ¬ k0_cond1 L = 1#1 → lim (half L) = 16256 := by decide +kernel
theorem bat_lt : bat L < 8 := by have : (L 1).val < 16 := (L 1).isLt; show (L 1).val / 2 < 8; omega

/-- Word `p` of matrix `b`, by its index. -/
theorem ent_eq (X : S8x16384.Idx → F .f32) (b p : ℕ) (y : S8x16384.Idx) (h₀ : (y 0).val = b) (h₁ : (y 1).val = p) : X y = ent X b p := by
  subst h₀ h₁
  unfold ent
  rw [dif_pos ⟨(y 0).isLt, (y 1).isLt⟩]
  congr 1; funext a
  match a with
  | 0 => rfl
  | 1 => rfl

/-- The copy in, by either branch of the switch: the buffer's first words are the matrix's. -/
theorem part3_run (q : PosShare TreeShare) (X : Buf (Elt F) (xLoc d)) (fs : Buf (Elt F) ((sB).view.loc (V d (cV L) (jV L))))
    (O' : CellTallies nD τ sig (HIx 1)) (W : Waits sig (HIx 1)) :
    (iprop(Transfers.MayWaits (V d (cV L) (jV L)) (none : HIx 1) O'
        ∗ ((xV).view.loc (V d (cV L) (jV L)) ↦{q} X) ∗ ((sB).view.loc (V d (cV L) (jV L)) ↦{fullShare} fs)
        ∗ semVal (c0cell d (cV L) (jV L)) 0 ∗ semVal (c1cell d (cV L) (jV L)) 0 ∗ owes (V d (cV L) (jV L)) O' W) : sProp 𝕄)
      ⊢ wp frame (wpE (defs₀ (F := F)) 𝒱₀ (V d (cV L) (jV L)) none) Set.univ
          (k0_part3 L xV (Memref.isWhole_whole _) oV (Memref.isWhole_whole _) sB (Memref.isWhole_whole _) sR (Memref.isWhole_whole _)
            cc0_scoped0 cc0_scoped1 cc0_scoped2)
          fun r => iprop(⌜Words L r⌝ ∗ ∃ f, ∃ W', ((xV).view.loc (V d (cV L) (jV L)) ↦{q} X) ∗ ((sB).view.loc (V d (cV L) (jV L)) ↦{fullShare} f)
            ∗ semVal (c0cell d (cV L) (jV L)) 0 ∗ semVal (c1cell d (cV L) (jV L)) 0 ∗ owes (V d (cV L) (jV L)) O' W'
            ∗ ⌜Held X (bat L) (lim (half L)) f ∧ ∀ p ∈ W', p ∈ W ∨ p.2 = none⌝) := by
  rw [k0_part3_eq_skeleton]; unfold k0_part3_skel
  iintro ⟨#Hmw, Hx, Hs, Hsem0, Hsem1, HO⟩
  by_cases k0_h1 : k0_cond1 L = 1#1
  · sl_exec (disch := exact View.amount_pos _ _ (show 0 < S12160.numel by decide))
    sl_step
    isplitr
    · ipureintro
      exact words_intro L _ _ _ _ _ _ _ (word23 L) (word25 L)
    iexists _, _
    isplitl [Hx]; · iexact Hx
    isplitl [Hs]; · iexact Hs
    isplitl [Hsem0]; · iexact Hsem0
    isplitl [Hsem1]; · iexact Hsem1
    isplitl [HO]; · iexact HO
    ipureintro
    rw [lim_taken L k0_h1]
    refine ⟨held_fetch d L X (bat L) 12160 fs _ rfl _ _ ?_, ?_⟩
    · intro x
      have e : (Shape.reshapeEquiv squeezes_S1x12160_S12160.numel_eq x : S1x12160.Idx) = Fin.cons ⟨0, Nat.one_pos⟩ x :=
        Shape.reshapeEquiv_cons_one _ x
      refine ent_eq X _ _ ((Rect.unit (s := S8x16384) (k0_off1 L) S1x12160.size (k0_off1_inb L k0_h1)).emb
        (Shape.reshapeEquiv squeezes_S1x12160_S12160.numel_eq x)) ?_ ?_
      · rw [e, Rect.emb_apply]
        show k0_off1 L 0 + 1 * 0 = bat L
        rw [off1_eq]; rfl
      · rw [e, Rect.emb_apply]
        show k0_off1 L 1 + 1 * (x 0).val = (x 0).val
        rw [off1_eq]; show 0 + 1 * (x 0).val = _; omega
    · intro p hp
      rcases Finset.mem_insert.mp hp with hp | hp
      · exact .inr (hp ▸ rfl)
      · exact .inl hp
  · sl_exec (disch := exact View.amount_pos _ _ (show 0 < S16256.numel by decide))
    sl_step
    isplitr
    · ipureintro
      exact words_intro L _ _ _ _ _ _ _ (word23 L) (word25 L)
    iexists _, _
    isplitl [Hx]; · iexact Hx
    isplitl [Hs]; · iexact Hs
    isplitl [Hsem0]; · iexact Hsem0
    isplitl [Hsem1]; · iexact Hsem1
    isplitl [HO]; · iexact HO
    ipureintro
    rw [lim_other L k0_h1]
    refine ⟨held_fetch d L X (bat L) 16256 fs _ rfl _ _ ?_, ?_⟩
    · intro x
      have e : (Shape.reshapeEquiv squeezes_S1x16256_S16256.numel_eq x : S1x16256.Idx) = Fin.cons ⟨0, Nat.one_pos⟩ x :=
        Shape.reshapeEquiv_cons_one _ x
      refine ent_eq X _ _ ((Rect.unit (s := S8x16384) (k0_off2 L) S1x16256.size (k0_off2_inb L k0_h1)).emb
        (Shape.reshapeEquiv squeezes_S1x16256_S16256.numel_eq x)) ?_ ?_
      · rw [e, Rect.emb_apply]
        show k0_off2 L 0 + 1 * 0 = bat L
        rw [off2_eq]; rfl
      · rw [e, Rect.emb_apply]
        show k0_off2 L 1 + 1 * (x 0).val = (x 0).val
        rw [off2_eq]; show 0 + 1 * (x 0).val = _; omega
    · intro p hp
      rcases Finset.mem_insert.mp hp with hp | hp
      · exact .inr (hp ▸ rfl)
      · exact .inl hp

/-- The tile's grid point by its number. -/
theorem coordsV_L (c : Fin (grid0.bound 0)) (s : Fin (grid0.bound 1)) (hs : s.val = (L 1).val) : coordsV c s = L := by
  funext a
  match a with
  | 0 => exact Fin.ext (by have h1 : c.val < 1 := c.isLt; have h2 : (L 0).val < 1 := (L 0).isLt; show c.val = (L 0).val; omega)
  | 1 => exact Fin.ext hs

theorem emb_oRowK_0 (j : S16.Idx) : (((oRowK L).view.emb j : S16x16.Idx) 0).val = (L 1).val := by
  have e : (Shape.reshapeEquiv squeezes_S1x16_S16.numel_eq j : S1x16.Idx) = Fin.cons ⟨0, Nat.one_pos⟩ j := Shape.reshapeEquiv_cons_one _ j
  show ((rowK L).emb (Shape.reshapeEquiv squeezes_S1x16_S16.numel_eq j) 0).val = _
  rw [e, Rect.emb_apply]
  show k0_off13 L 0 + 1 * 0 = _
  rw [k0_off13_eq]; rfl
theorem emb_oRowK_1 (j : S16.Idx) : (((oRowK L).view.emb j : S16x16.Idx) 1).val = (j 0).val := by
  have e : (Shape.reshapeEquiv squeezes_S1x16_S16.numel_eq j : S1x16.Idx) = Fin.cons ⟨0, Nat.one_pos⟩ j := Shape.reshapeEquiv_cons_one _ j
  show ((rowK L).emb (Shape.reshapeEquiv squeezes_S1x16_S16.numel_eq j) 1).val = _
  rw [e, Rect.emb_apply]
  show k0_off13 L 1 + 1 * (j 0).val = _
  rw [k0_off13_eq]; show 0 + 1 * (j 0).val = _; omega

/-- The row that the tile copies out is its row of the call's result. -/
theorem row_value (X : S8x16384.Idx → F .f32) (fo : Buf (Elt F) (oLoc d)) (w : S16.Idx → F .f32) (hw : w = tileVec X L) :
    ∀ i ∈ (oRowK L).view.set, (oRowK L).view.writes (Elt F) fo [⟨Rect.whole S16, w⟩] i = outv X i := by
  subst hw
  intro i hi
  obtain ⟨j, -, rfl⟩ := Finset.mem_map.mp hi
  refine (congrFun (View.read_writes_whole (Val := Elt F) (oRowK L).view fo (tileVec X L)) j).trans ?_
  have e := coordsV_L L ⟨0, Nat.one_pos⟩ ⟨(((oRowK L).view.emb j : S16x16.Idx) 0).val, (((oRowK L).view.emb j : S16x16.Idx) 0).isLt⟩ (emb_oRowK_0 L j)
  refine congr (congrArg (tileVec X) e.symm) (funext fun a => ?_)
  match a with
  | 0 => exact Fin.ext (emb_oRowK_1 L j).symm

/-- One tile's task: from its share of the operand and its row of the result, it ends with the row at the call's values. -/
theorem tile_body (hF : (K (F := F)).Facts) (O' : CellTallies nD τ sig (HIx 1)) (W : Waits sig (HIx 1)) (hO : ∀ g, O' g none = 0) :
    iprop(levAts (K (F := F)).L (K (F := F)).lev ∗ emp
        ∗ (xTok m d (jL L) ∗ oRowPts d (jL L) (m (oLoc d)))
        ∗ scopedBufs (V d (cV L) (jV L)) ∗ scopedSems0 (V d (cV L) (jV L)) ∗ owes (V d (cV L) (jV L)) O' W)
      ⊢ wp frame (wpE (defs₀ (F := F)) 𝒱₀ (V d (cV L) (jV L)) none) Set.univ
          (cc0_diag_std_kernel L xV (Memref.isWhole_whole _) oV (Memref.isWhole_whole _) sB (Memref.isWhole_whole _) sR (Memref.isWhole_whole _)
            cc0_scoped0 cc0_scoped1 cc0_scoped2)
          fun _ => iprop((xTok m d (jL L) ∗ oRowPts d (jL L) (O m d))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O' W') := by
  rw [cc0_diag_std_kernel_eq_skeleton]; unfold cc0_diag_std_kernel_skel
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fs, Hs⟩, ⟨%fc, Hc⟩, Hbufs⟩, ⟨Hsem0, Hsem1, Hsem2, Hsems⟩, HO⟩
  ihave Hmw := (show levAts (K (F := F)).L (K (F := F)).lev ⊢ Transfers.MayWaits (V d (cV L) (jV L)) (default : HIx 1) O' from
    (K (F := F)).mayWaits_none (thr := V d (cV L) (jV L)) hO) $$ Hlv
  ihave Hx' := (Entails.of_eq (pts_x (F := F) d L _ _).symm) $$ Hx
  ihave Ho' := (Entails.of_eq (pts_oRowK (F := F) d L _).symm) $$ Ho
  ihave Hs' := (Entails.of_eq (pts_sB (F := F) d L _).symm) $$ Hs
  ihave Hc' := (Entails.of_eq (pts_sR (F := F) d L _).symm) $$ Hc
  rw [wp_bind]
  iapply (wp_wand_r Idealize.ShloMosaic.frame (wpE (defs₀ (F := F)) 𝒱₀ (V d (cV L) (jV L)) none) Set.univ)
  isplitl [Hmw Hx' Hs' Hsem0 Hsem1 HO]
  · iapply (part3_run d L _ _ fs O' W)
    isplitl [Hmw]; · iexact Hmw
    isplitl [Hx']; · iexact Hx'
    isplitl [Hs']; · iexact Hs'
    isplitl [Hsem0]; · iexact Hsem0
    isplitl [Hsem1]; · iexact Hsem1
    iexact HO
  iintro %r ⟨%hr, %f, %W', Hx', Hs', Hsem0, Hsem1, HO, %hf⟩
  obtain ⟨v7, v9, v11, v13, v30, rfl⟩ := hr
  obtain ⟨hf, hW'⟩ := hf
  rw [wp_bind]
  iapply (wp_wand_r Idealize.ShloMosaic.frame (wpE (defs₀ (F := F)) 𝒱₀ (V d (cV L) (jV L)) none) Set.univ)
  isplitl [Hs']
  · iapply (part4_run d L (X m d) f hf v7 v9 v11 v13 v30 _ _ rfl rfl)
    iexact Hs'
  iintro %r ⟨%hr, Hs'⟩
  subst hr
  rw [sums]
  rw [k0_part5_eq_skeleton]
  sl_exec (disch := exact View.amount_pos _ _ (show 0 < S16.numel by decide))
  sl_step
  isplitl [Hx' Ho']
  · isplitl [Hx']; · iapply (Entails.of_eq (pts_x (F := F) d L _ _)); iexact Hx'
    iapply (Entails.of_eq (pts_oRowK (F := F) d L _))
    have hw : tile_body.sl.dma2 m d L fc = tileVec (X m d) L := by
      funext j
      refine (View.read_writes_cons_hit_of_coords (Val := Elt F) (sR).view fc (Rect.unit (s := S16) ![0] S16.size inb_S16_S16_0) (tileVec (X m d) L) [] j j ?_)
      intro a
      match a with
      | 0 => show (j 0).val = 0 + 1 * (j 0).val; omega
    iapply (Entails.of_eq (pointsTo_congr (row_value d L (X m d) (m (oLoc d)) (tile_body.sl.dma2 m d L fc) hw)))
    iexact Ho'
  isplitl [Hs' Hc' Hbufs]
  · isplitl [Hs']; · iexists _; iapply (Entails.of_eq (pts_sB (F := F) d L _)); iexact Hs'
    isplitl [Hc']; · iexists _; iapply (Entails.of_eq (pts_sR (F := F) d L _)); iexact Hc'
    iexact Hbufs
  isplitl [Hsem0 Hsem1 Hsem2 Hsems]
  · isplitl [Hsem0]; · iexact Hsem0
    isplitl [Hsem1]; · iexact Hsem1
    isplitl [Hsem2]; · iexact Hsem2
    iexact Hsems
  iexists (insert (SemLoc.dma cc0_scoped2.sem, (default : HIx 1)) W')
  isplitr [HO]
  · ipureintro
    intro p hp
    rcases Finset.mem_insert.mp hp with hp | hp
    · exact .inr (.inl (hp ▸ rfl))
    · exact (hW' p hp).imp_right Or.inl
  · iexact HO

end Cert.Proof.Exact

end
-- ==== Proof.ExactRun.lean ====
/-
  The program's run: the tiles' task as the launch theorem wants it, the operand's shares and the result's rows dealt to the
  tiles and gathered again, and `@main` on the TensorCore, which flattens the argument, makes the call, and adds its result up.
-/
module

public import proofs.«01_k».proof.Proof.ExactTile

@[expose] public section

set_option maxRecDepth 16384

noncomputable section

namespace Cert.Proof.Exact

open Cert.ExactRootIdeal Cert.ExactRootIdeal.Gen
open Idealize.ShloMosaic
open Idealize.ShloMosaic.SparseCore (S V T)
open Idealize.ShloMosaic.SparseCore.Cfg (HIx Pay)
open Idealize.ShloMosaic.StableHlo (held)
open Idealize.ShloMosaic.StableHlo (wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "xV" => (Memref.whole Cert.ExactRootIdeal.main_v0_scv : Memref Cert.ExactRootIdeal.sig Kind.scVector Space.hbm Cert.ExactRootIdeal.S8x16384 EltTy.f32)
local notation "oV" => (Memref.whole Cert.ExactRootIdeal.main_v1_scv : Memref Cert.ExactRootIdeal.sig Kind.scVector Space.hbm Cert.ExactRootIdeal.S16x16 EltTy.f32)
local notation "sB" => (Memref.whole Cert.ExactRootIdeal.cc0_scratch0 : Memref Cert.ExactRootIdeal.sig Kind.scVector Space.vmem Cert.ExactRootIdeal.S16448 EltTy.f32)
local notation "sR" => (Memref.whole Cert.ExactRootIdeal.cc0_scratch1 : Memref Cert.ExactRootIdeal.sig Kind.scVector Space.vmem Cert.ExactRootIdeal.S16 EltTy.f32)

variable (m : (ℓ : Loc nD τ sig) → Buf (Elt F) ℓ) (ρ : Dev nD → PrngReg)

/-! ## The tiles' task -/

theorem defs₀_vector (c : Fin τ.nSC) (s : Fin τ.nSub) :
    defs₀ (F := F) (.scVector c s) 0 ()
      = SparseCore.onTile hcore0 hsub0 (fun c s => cc0_diag_std_kernel (coordsV c s)
          xV (Memref.isWhole_whole _) oV (Memref.isWhole_whole _) sB (Memref.isWhole_whole _) sR (Memref.isWhole_whole _)
          cc0_scoped0 cc0_scoped1 cc0_scoped2) ⟨⟩ c s := rfl

theorem tileObl (hF : (K (F := F)).Facts) : (K (F := F)).TileObl (D (F := F)) 𝒱 (P m) v₀ 0 := by
  intro d c i O' W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O' W hO

/-! ## The operand's shares and the result's rows -/

theorem rowSet_eq (i : Fin 16) : rowSet i = (row i).set := by
  show ((View.whole (main_v1_scv : Ref sig .scVector)).slice (row i)).set = _
  rw [View.set_slice]; exact Finset.map_refl
theorem rows_disjoint : ∀ i ∈ (Finset.univ : Finset (Fin 16)), ∀ j ∈ (Finset.univ : Finset (Fin 16)), i ≠ j → Disjoint (rowSet i) (rowSet j) :=
  fun i _ j _ h => by rw [rowSet_eq, rowSet_eq]; exact Rect.part_disjoint hdiv h
theorem rows_cover : (Finset.univ : Finset (Fin 16)).biUnion rowSet = Finset.univ :=
  (Finset.biUnion_congr rfl fun i _ => rowSet_eq i).trans (Rect.biUnion_part hdiv)

theorem oPts_rows (d : Dev nD) (f : Buf (Elt F) (oLoc d)) :
    (oPts d f : sProp 𝕄) = bigSep Finset.univ fun i : Fin 16 => oRowPts d i f := by
  show (oLoc d ↦{fullShare} f : sProp 𝕄) = bigSep Finset.univ fun i : Fin 16 => oLoc d ↦[rowSet i]{fullShare} f
  rw [← pointsTo_biUnion Finset.univ (ℓ := oLoc d) rowSet rows_disjoint, rows_cover]; try rfl

theorem xPts_toks (d : Dev nD) :
    (xPts m d : sProp 𝕄) ⊢ iprop((xLoc d ↦{xRest} X m d) ∗ bigSep Finset.univ fun i : Fin 16 => xTok m d i) :=
  Transfers.pointsTo_toks_split (ℓ := xLoc d) fullShare 16
theorem xPts_join (d : Dev nD) :
    iprop((xLoc d ↦{xRest} X m d) ∗ bigSep Finset.univ fun i : Fin 16 => xTok m d i) ⊢ (xPts m d : sProp 𝕄) :=
  Transfers.pointsTo_toks_join (ℓ := xLoc d) fullShare 16

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(xPts m d ∗ oPts d (m (oLoc d))) ⊢ |={Set.univ}=> iprop(
      (bigSep Finset.univ fun i : Fin ((K (F := F)).nSub 0) => iprop(xTok m d (Fin.cast nSub_zero i) ∗ oRowPts d (Fin.cast nSub_zero i) (m (oLoc d))))
      ∗ ((bigSep Finset.univ fun i : Fin ((K (F := F)).nSub 0) => iprop(xTok m d (Fin.cast nSub_zero i) ∗ oRowPts d (Fin.cast nSub_zero i) (O m d)))
          -∗ iprop(xPts m d ∗ oPts d (O m d))))
  rw [bigSep_tasks (F := F) (fun i => iprop(xTok m d i ∗ oRowPts d i (m (oLoc d)))),
    bigSep_tasks (F := F) (fun i => iprop(xTok m d i ∗ oRowPts d i (O m d))),
    bigSep_sep', bigSep_sep', oPts_rows, oPts_rows]
  iintro ⟨Hx, Ho⟩
  ihave Hx' := (xPts_toks m d) $$ Hx
  icases Hx' with ⟨Hrest, Htoks⟩
  imodintro
  isplitl [Htoks Ho]
  · isplitl [Htoks]; · iexact Htoks
    iexact Ho
  iintro ⟨Htoks, Ho⟩
  isplitr [Ho]
  · iapply (xPts_join m d)
    isplitl [Hrest]; · iexact Hrest
    iexact Htoks
  iexact Ho

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## `@main` on the TensorCore -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev z' : DevRef τ sig := Proc.devRef .tc (main_cst : Ref sig .tc)
abbrev r' : DevRef τ sig := Proc.devRef .tc (main_v2 : Ref sig .tc)
abbrev zLoc (d : Dev nD) : Loc nD τ sig := (SparseCore.T d).loc main_cst

abbrev opFlat : HloOp τ sig (Elt F) := StableHlo.reshape main_arg0 main_v0 (rfl : (.f32 : EltTy) = .f32) shapeCasts_S8x128x128_S8x16384
abbrev opZero : HloOp τ sig (Elt F) := StableHlo.nullary main_cst (constant S_ .f32 0x00000000#32)
abbrev opSum : HloOp τ sig (Elt F) := StableHlo.binary main_v1 main_cst main_v2
  ((fun x v => Host.reduceAdd x v reducesTo_S16x16_S_d0_1 h_S_) : (⟨S16x16, .f32⟩ : BufTy).Contents (Elt F) → (⟨S_, .f32⟩ : BufTy).Contents (Elt F) → (⟨S_, .f32⟩ : BufTy).Contents (Elt F))

/-- The program's result. -/
def R (d : Dev nD) : S_.Idx → F .f32 := Host.reduceAdd (O m d) (constant S_ .f32 0x00000000#32) reducesTo_S16x16_S_d0_1 h_S_

/-- The TensorCore's arrays. -/
abbrev S5 : Finset (DevRef τ sig) := {a', x', o', z', r'}

theorem held_S5 (d : Dev nD) (W : Valuation τ sig (Elt F)) :
    (held (T d) S5 W : sProp 𝕄)
      = iprop((aLoc d ↦{fullShare} W a') ∗ (xLoc d ↦{fullShare} W x') ∗ (oLoc d ↦{fullShare} W o') ∗ (zLoc d ↦{fullShare} W z')
          ∗ rLoc d ↦{fullShare} W r') := by
  unfold held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (oLoc d ↦{fullShare} W main_v1) ∗ (zLoc d ↦{fullShare} W main_cst)
          ∗ rLoc d ↦{fullShare} W main_v2) := by
  unfold unscopedBufs
  rw [show (Finset.univ.filter fun b : Ref sig .tc => ¬ b.isScoped) = {main_arg0, main_v0, main_v1, main_cst, main_v2} by decide,
    SparseCore.bigSep_insert' (by decide), SparseCore.bigSep_insert' (by decide), SparseCore.bigSep_insert' (by decide),
    SparseCore.bigSep_insert' (by decide), bigSep_singleton]

/-- The arrays at the launch, and after the call. -/
def V0 (d : Dev nD) : Valuation τ sig (Elt F) := fun b => m (d, b)
def V2 (d : Dev nD) : Valuation τ sig (Elt F) := Function.update ((opFlat (F := F)).result (V0 m d)) o' (O m d)

theorem unscoped_held (d : Dev nD) : (unscopedBufs d (fun b => m ((SparseCore.T d).loc b)) : sProp 𝕄) = held (T d) S5 (V0 m d) := by
  rw [unscopedBufs_eq, held_S5]; rfl

theorem held_V1 (d : Dev nD) :
    (held (T d) S5 ((opFlat (F := F)).result (V0 m d)) : sProp 𝕄)
      = iprop((aLoc d ↦{fullShare} m (aLoc d)) ∗ xPts m d ∗ oPts d (m (oLoc d)) ∗ (zLoc d ↦{fullShare} m (zLoc d)) ∗ rLoc d ↦{fullShare} m (rLoc d)) := by
  rw [held_S5, (opFlat (F := F)).result_of_not_mem (V0 m d) (b := a') (show a' ∉ ({x'} : Finset (DevRef τ sig)) by decide),
    (opFlat (F := F)).result_of_not_mem (V0 m d) (b := o') (show o' ∉ ({x'} : Finset (DevRef τ sig)) by decide),
    (opFlat (F := F)).result_of_not_mem (V0 m d) (b := z') (show z' ∉ ({x'} : Finset (DevRef τ sig)) by decide),
    (opFlat (F := F)).result_of_not_mem (V0 m d) (b := r') (show r' ∉ ({x'} : Finset (DevRef τ sig)) by decide),
    show (opFlat (F := F)).result (V0 m d) x' = X m d from StableHlo.reshape_result ..]
  rfl

theorem V2_a (d : Dev nD) : V2 m d a' = m (aLoc d) := by
  unfold V2
  rw [Function.update_of_ne (by decide), (opFlat (F := F)).result_of_not_mem (V0 m d) (b := a') (show a' ∉ ({x'} : Finset (DevRef τ sig)) by decide)]; rfl
theorem V2_x (d : Dev nD) : V2 m d x' = X m d := by
  unfold V2
  rw [Function.update_of_ne (by decide)]; exact StableHlo.reshape_result ..
theorem V2_o (d : Dev nD) : V2 m d o' = O m d := Function.update_self _ _ _
theorem V2_z (d : Dev nD) : V2 m d z' = m (zLoc d) := by
  unfold V2
  rw [Function.update_of_ne (by decide), (opFlat (F := F)).result_of_not_mem (V0 m d) (b := z') (show z' ∉ ({x'} : Finset (DevRef τ sig)) by decide)]; rfl
theorem V2_r (d : Dev nD) : V2 m d r' = m (rLoc d) := by
  unfold V2
  rw [Function.update_of_ne (by decide), (opFlat (F := F)).result_of_not_mem (V0 m d) (b := r') (show r' ∉ ({x'} : Finset (DevRef τ sig)) by decide)]; rfl

theorem held_V4 (d : Dev nD) :
    (held (T d) S5 ((opSum (F := F)).result ((opZero (F := F)).result (V2 m d))) : sProp 𝕄)
      = iprop((aLoc d ↦{fullShare} m (aLoc d)) ∗ (xLoc d ↦{fullShare} (opSum (F := F)).result ((opZero (F := F)).result (V2 m d)) x')
          ∗ (oLoc d ↦{fullShare} (opSum (F := F)).result ((opZero (F := F)).result (V2 m d)) o')
          ∗ (zLoc d ↦{fullShare} (opSum (F := F)).result ((opZero (F := F)).result (V2 m d)) z')
          ∗ rLoc d ↦{fullShare} R m d) := by
  rw [held_S5, (opSum (F := F)).result_of_not_mem _ (b := a') (show a' ∉ ({r'} : Finset (DevRef τ sig)) by decide),
    (opZero (F := F)).result_of_not_mem _ (b := a') (show a' ∉ ({z'} : Finset (DevRef τ sig)) by decide), V2_a,
    show (opSum (F := F)).result ((opZero (F := F)).result (V2 m d)) r' = R m d from
      (StableHlo.binary_result _ _ _ _ _ _ _ _).trans (by
        rw [(opZero (F := F)).result_of_not_mem _ (b := o') (show o' ∉ ({z'} : Finset (DevRef τ sig)) by decide), V2_o,
          show (opZero (F := F)).result (V2 m d) z' = constant S_ .f32 0x00000000#32 from StableHlo.nullary_result ..]
        rfl)]

theorem st0_eq (d : Dev nD) : (bigSep Finset.univ fun c : Fin ((K (F := F)).nCore 0) => (P m).st 0 d c) = iprop(xPts m d ∗ oPts d (m (oLoc d))) :=
  bigSep_univ_of_subsingleton (0 : Fin 1)
theorem dn0_eq (d : Dev nD) : (bigSep Finset.univ fun c : Fin ((K (F := F)).nCore 0) => (P m).dn 0 d c) = iprop(xPts m d ∗ oPts d (O m d)) :=
  bigSep_univ_of_subsingleton (0 : Fin 1)

theorem hFlat : (opFlat (F := F)).bufs ⊆ S5 := show ({a', x'} : Finset (DevRef τ sig)) ⊆ S5 by decide
theorem hZero : (opZero (F := F)).bufs ⊆ S5 := show ({z'} : Finset (DevRef τ sig)) ⊆ S5 by decide
theorem hSum : (opSum (F := F)).bufs ⊆ S5 := show ({o', z', r'} : Finset (DevRef τ sig)) ⊆ S5 by decide

/-- What `@main` leaves the claims: the argument at its launch contents, the result at the sum. -/
abbrev FIN (d : Dev nD) : sProp 𝕄 := iprop((aLoc d ↦{fullShare} m (aLoc d)) ∗ rLoc d ↦{fullShare} R m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  -- the argument flattened
  iapply (wp_hlo_within 𝒱 (SparseCore.T d) none Set.univ (op := opFlat) (S := S5) hFlat (V := V0 m d)) $$ [Hb Hheld]
  · isplitl [Hb] <;> iassumption
  iintro ⟨Hb, Hheld⟩
  rw [wp_ret]; imodintro
  -- the call
  ihave Hh := (Entails.of_eq (held_V1 (F := F) m d)) $$ Hheld
  icases Hh with ⟨Ha, Hx, Ho, Hz, Hr⟩
  iapply ((K (F := F)).wp_run (D (F := F)) 𝒱 (EH := EH) (P := P m) κ d 0) $$ [Hst Hx Ho Hb Ha Hz Hr Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  -- the zero and the sum
  iapply (wp_hlo_within 𝒱 (SparseCore.T d) none Set.univ (op := opZero) (S := S5) hZero (V := V2 m d)) $$ [Hb Hx Ha Hz Ho Hr]
  · isplitl [Hb]; · iexact Hb
    rw [held_S5, V2_a, V2_x, V2_o, V2_z, V2_r]
    isplitl [Ha]; · iexact Ha
    isplitl [Hx]; · iexact Hx
    isplitl [Ho]; · iexact Ho
    isplitl [Hz]; · iexact Hz
    iexact Hr
  iintro ⟨Hb, Hheld⟩
  rw [wp_ret]; imodintro
  iapply (wp_hlo_within 𝒱 (SparseCore.T d) none Set.univ (op := opSum) (S := S5) hSum (V := (opZero (F := F)).result (V2 m d))) $$ [Hb Hheld]
  · isplitl [Hb] <;> iassumption
  iintro ⟨Hb, Hheld⟩
  ihave Hh := (Entails.of_eq (held_V4 (F := F) m d)) $$ Hheld
  icases Hh with ⟨Ha, -, -, -, Hr⟩
  rw [wp_ret]; imodintro; imodintro
  isplitl [Hst]; · iexact Hst
  isplitr [Hb Hts]
  · isplitl [Ha]; · iexact Ha
    iexact Hr
  isplitl [Hb] <;> iassumption

/-- What the claims read of device `d`'s final state. -/
def fq (d : Dev nD) (s' : Phys nD τ sig (Elt F)) : Prop := s'.mem.mem (rLoc d) = R m d ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (SI_pointsTo_agree (st := s') (ℓ := rLoc d) (I := Finset.univ) (q := fullShare) (f := R m d)) $$ [HSI Hr]
  · isplitl [HSI] <;> iassumption
  icases H with %hr
  ipureintro; exact ⟨funext fun i => hr i (Finset.mem_univ i), funext fun i => ha i (Finset.mem_univ i)⟩

/-! ## The run -/

def QC : PUnit × MemSt nD τ sig (Elt F) → Prop := fun r => (∀ c : Dev nD, r.2.mem (rLoc c) = R m c ∧ r.2.mem (aLoc c) = m (aLoc c)) ∧ r.2.sem = fun _ => 0

theorem run_main [∀ e, Nonempty (Elt F e)] : θ_run (Cert.ExactRootIdeal.defs (F := F)) (Cert.ExactRootIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Exact

end
-- ==== Proof.Frames.lean ====
/-
  The frames. `KernelIdeal` and `Kernel` have theirs from one run: `Kernel` is `KernelIdeal`'s text with each named constant
  read as the word it was printed from. So have `ExactRootIdeal` and `ExactRoot`.
-/
module

public import proofs.«01_k».proof.Proof.Run
public import proofs.«01_k».proof.Proof.ExactRun
public import proofs.«01_k».proof.Proof.Gen.Kernel
public import proofs.«01_k».proof.Proof.Gen.ExactRoot
public import proofs.«01_k».proof.Proof.Gen.Pre_finite
public import proofs.«01_k».proof.Proof.Gen.ReferenceIdeal.Run

@[expose] public section

set_option maxRecDepth 16384

noncomputable section

namespace Cert.Proof.Diag

open Idealize.ShloMosaic Idealize.SL.Sem

/-- At `Bits` a named constant is the word itself. -/
local instance namedBits : Named Bits where
  named _ _ {φ} bits := FloatOps.ofBits φ bits

theorem frame_ideal : Cert.quiescent_KernelIdeal := fun m ρ _ =>
  (θ_run Cert.KernelIdeal.defs _ _).mono (fun _ h => ⟨fun c => (h.1 c).2, h.2⟩) (run_main (F := Ideal) m ρ)

theorem frame_ideal_finite : Cert.quiescent_KernelIdeal_pre_finite := fun m ρ _ => frame_ideal m ρ trivial

theorem frame_bits : Cert.quiescent_Kernel := fun m ρ _ =>
  (θ_run Cert.KernelIdeal.defs _ _).mono (fun _ h => ⟨fun c => (h.1 c).2, h.2⟩) (run_main (F := Bits) m ρ)

theorem exact_frame_ideal : Cert.quiescent_ExactRootIdeal := fun m ρ _ =>
  (θ_run Cert.ExactRootIdeal.defs _ _).mono (fun _ h => ⟨fun c => (h.1 c).2, h.2⟩) (Exact.run_main (F := Ideal) m ρ)

theorem exact_frame_ideal_finite : Cert.quiescent_ExactRootIdeal_pre_finite := fun m ρ _ => exact_frame_ideal m ρ trivial

theorem exact_frame_bits : Cert.quiescent_ExactRoot := fun m ρ _ =>
  (θ_run Cert.ExactRootIdeal.defs _ _).mono (fun _ h => ⟨fun c => (h.1 c).2, h.2⟩) (Exact.run_main (F := Bits) m ρ)

/-- The reference declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_finite := fun m ρ _ => frame_reference m ρ trivial

theorem preserves : Cert.preserves_Kernel_KernelIdeal :=
  ⟨IdealRules.named_const.statement _ _ _ _ _ rfl, IdealRules.named_const.statement _ _ _ _ _ rfl⟩

theorem exact_preserves : Cert.preserves_ExactRoot_ExactRootIdeal :=
  ⟨IdealRules.named_const.statement _ _ _ _ _ rfl, IdealRules.named_const.statement _ _ _ _ _ rfl⟩

end Cert.Proof.Diag

end
-- ==== Proof.Diagonals.lean ====
/-
  The problem over the reals: the diagonals of a batch of matrices, their sums and sums of squares, their unbiased variances,
  and two ways of writing the deviations' squares.
-/
module

public import Idealize.ShloMosaic.PureOps.Ideal
public import Mathlib.Algebra.BigOperators.Fin
public import Mathlib.Tactic.Ring
public import Mathlib.Tactic.FieldSimp
public import Mathlib.Tactic.Linarith

@[expose] public section

noncomputable section

namespace Cert.Proof.Real

open Idealize.ShloMosaic

/-- The elements as a function of three numbers: matrix, row, column. -/
abbrev Els : Type := ℕ → ℕ → ℕ → ℝ

variable (e : Els) (b D : ℕ)

/-- How many elements diagonal `D` has. -/
def cnt (D : ℕ) : ℝ := 128 - D
/-- The sum of diagonal `D` of matrix `b`, and of its squares. -/
def S1 : ℝ := ∑ r ∈ Finset.range (128 - D), e b r (r + D)
def S2 : ℝ := ∑ r ∈ Finset.range (128 - D), e b r (r + D) * e b r (r + D)
/-- Its unbiased variance. -/
def var : ℝ := (S2 e b D - S1 e b D * S1 e b D / cnt D) / (cnt D - 1)
/-- The mean over the batch and the diagonals `1 … 126` of their deviations, each times its number of elements over five,
    the root of a variance being `rt`. -/
def value (rt : ℝ → ℝ) : ℝ := (∑ b : Fin 8, ∑ o : Fin 126, rt (var e b (o.val + 1)) * cnt (o.val + 1) / 5) / 1008

/-- Newton's steps for the root of `v`, from `(v + 1) / 2`. -/
def heron (v : ℝ) : ℕ → ℝ
  | 0 => (v + 1) / 2
  | t + 1 => (heron v t + v / heron v t) / 2

theorem heron_pos {v : ℝ} (h : 0 ≤ v) (t : ℕ) : 0 < heron v t := by
  induction t with
  | zero => unfold heron; linarith
  | succ t ih => have := div_nonneg h ih.le; unfold heron; linarith

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem div_real {y : ℝ} (x : ℝ) (h : y ≠ 0) : Ideal.div (x : EReal) (y : EReal) = ((x / y : ℝ) : EReal) := by
  rw [Ideal.div_coe h, ← EReal.coe_mul, mul_one_div]

theorem sqrt_real {x : ℝ} (h : 0 ≤ x) : Ideal.sqrt (x : EReal) = ((√x : ℝ) : EReal) := by
  rw [Ideal.sqrt_coe, if_neg (not_lt.2 h)]

theorem cnt_ge {D : ℕ} (h : D ≤ 126) : 2 ≤ cnt D := by
  have : (D : ℝ) ≤ 126 := by exact_mod_cast h
  unfold cnt; linarith

theorem card_eq {D : ℕ} (h : D ≤ 126) : ((Finset.range (128 - D)).card : ℝ) = cnt D := by
  rw [Finset.card_range, Nat.cast_sub (by omega)]; rfl

/-- Subtracting the mean and squaring is subtracting the square of the sum over the number. -/
theorem centred (h : D ≤ 126) (k : ℝ) :
    ∑ r ∈ Finset.range (128 - D), (e b r (r + D) * k - (∑ r ∈ Finset.range (128 - D), e b r (r + D) * k) / cnt D)
        * (e b r (r + D) * k - (∑ r ∈ Finset.range (128 - D), e b r (r + D) * k) / cnt D)
      = k * k * (S2 e b D - S1 e b D * S1 e b D / cnt D) := by
  have hn : cnt D ≠ 0 := by have := cnt_ge h; linarith
  rw [← Finset.sum_mul, show (∑ r ∈ Finset.range (128 - D), e b r (r + D)) = S1 e b D from rfl]
  have : ∀ r : ℕ, (e b r (r + D) * k - S1 e b D * k / cnt D) * (e b r (r + D) * k - S1 e b D * k / cnt D)
      = k * k * (e b r (r + D) * e b r (r + D)) - (2 * k * k * S1 e b D / cnt D) * e b r (r + D) + (S1 e b D * k / cnt D) * (S1 e b D * k / cnt D) :=
    fun r => by ring
  simp only [this]
  rw [Finset.sum_add_distrib, Finset.sum_sub_distrib, ← Finset.mul_sum, ← Finset.mul_sum, Finset.sum_const, nsmul_eq_mul, card_eq h,
    show (∑ r ∈ Finset.range (128 - D), e b r (r + D)) = S1 e b D from rfl, show (∑ r ∈ Finset.range (128 - D), e b r (r + D) * e b r (r + D)) = S2 e b D from rfl]
  field_simp
  ring

theorem centred_nonneg (h : D ≤ 126) : 0 ≤ S2 e b D - S1 e b D * S1 e b D / cnt D := by
  have := centred e b D h 1
  rw [one_mul, one_mul] at this
  rw [← this]
  exact Finset.sum_nonneg fun r _ => mul_self_nonneg _

theorem var_nonneg (h : D ≤ 126) : 0 ≤ var e b D := by
  have := cnt_ge h
  exact div_nonneg (centred_nonneg e b D h) (by linarith)

/-- The deviation of the scaled elements is the scale times the elements' own. -/
theorem scaled (h : D ≤ 126) : √((cnt D / 5) * (cnt D / 5) * (S2 e b D - S1 e b D * S1 e b D / cnt D) / (cnt D - 1)) = √(var e b D) * cnt D / 5 := by
  have hc := cnt_ge h
  rw [mul_div_assoc, show (S2 e b D - S1 e b D * S1 e b D / cnt D) / (cnt D - 1) = var e b D from rfl, Real.sqrt_mul (mul_self_nonneg _),
    Real.sqrt_mul_self (by linarith)]
  ring

/-- A sum over all of a matrix of what lies on one diagonal. -/
theorem sum_diagonal (f : ℕ → ℕ → ℝ) (o : ℕ) (ho : o < 126) :
    (∑ r : Fin 128, ∑ c : Fin 128, if c.val = r.val + (o + 1) then f r.val c.val else 0) = ∑ r ∈ Finset.range (128 - (o + 1)), f r (r + (o + 1)) := by
  have h : ∀ r : Fin 128, (∑ c : Fin 128, if c.val = r.val + (o + 1) then f r.val c.val else 0) = if r.val < 128 - (o + 1) then f r.val (r.val + (o + 1)) else 0 := by
    intro r
    by_cases hr : r.val < 128 - (o + 1)
    · rw [if_pos hr, Finset.sum_eq_single (⟨r.val + (o + 1), by omega⟩ : Fin 128) (fun c _ hc => if_neg fun e => hc (Fin.ext e)) (fun h => absurd (Finset.mem_univ _) h), if_pos rfl]
    · rw [if_neg hr]
      exact Finset.sum_eq_zero fun c _ => if_neg (by have := c.isLt; omega)
  rw [Finset.sum_congr rfl fun r _ => h r, Fin.sum_univ_eq_sum_range (fun r => if r < 128 - (o + 1) then f r (r + (o + 1)) else 0) 128, ← Finset.sum_filter]
  congr 1
  ext r; simp only [Finset.mem_filter, Finset.mem_range]; omega

/-- The value reads elements within the matrices only. -/
theorem value_congr (e e' : Els) (h : ∀ b r k, b < 8 → r < 128 → k < 128 → e b r k = e' b r k) (rt : ℝ → ℝ) : value e rt = value e' rt := by
  unfold value
  congr 1
  refine Finset.sum_congr rfl fun b _ => Finset.sum_congr rfl fun o _ => ?_
  have s1 : S1 e b.val (o.val + 1) = S1 e' b.val (o.val + 1) :=
    Finset.sum_congr rfl fun r hr => h _ _ _ b.isLt (by have := Finset.mem_range.1 hr; omega) (by have := Finset.mem_range.1 hr; omega)
  have s2 : S2 e b.val (o.val + 1) = S2 e' b.val (o.val + 1) := by
    refine Finset.sum_congr rfl fun r hr => ?_
    rw [h _ _ _ b.isLt (by have := Finset.mem_range.1 hr; omega) (by have := Finset.mem_range.1 hr; omega)]
  unfold var
  rw [s1, s2]

end Cert.Proof.Real

end
-- ==== Proof.KernelValue.lean ====
/-
  The kernel's result over the reals: at an argument of real elements it is the value that the diagonals define.
-/
module

public import proofs.«01_k».proof.Proof.Run
public import proofs.«01_k».proof.Proof.Diagonals
public import Idealize.ShloMosaic.Lib.Pointwise
public import Idealize.ShloMosaic.Lib.WordCmp

@[expose] public section

set_option maxRecDepth 16384

noncomputable section

namespace Cert.Proof.Diag

open Cert.KernelIdeal Cert.KernelIdeal.Gen
open Idealize.ShloMosaic Cert.Proof.Real

/-! ## One lane's diagonal -/

/-- The flat array's elements by matrix, row, column. -/
def flat (x : S8x16384.Idx → ℝ) : Els := fun b r c => if h : b < 8 ∧ 128 * r + c < 16384 then x (fun | 0 => ⟨b, h.1⟩ | 1 => ⟨128 * r + c, h.2⟩) else 0

theorem ofBits_zero_real : (Scalar.ofBits (F := Ideal) .f32 0x00000000#32 : EReal) = ((0 : ℝ) : EReal) := by
  show Ideal.ofBits .f32 0#32 = _; rw [Ideal.ofBits_zero_f32]; rfl

theorem range_all (f : ℕ → ℝ) (k n : ℕ) (h : k ≤ n) : (∑ r ∈ Finset.range n, if r < k then f r else 0) = ∑ r ∈ Finset.range k, f r := by
  rw [← Finset.sum_filter]
  congr 1
  ext r; simp only [Finset.mem_filter, Finset.mem_range]; omega

section
variable (x : S8x16384.Idx → ℝ) (X : S8x16384.Idx → EReal) (hX : X = fun i => (x i : EReal))
include hX

theorem rowv_real (b d r : ℕ) (l : S16.Idx) :
    (rowv (F := Ideal) X b d r l : EReal) = ((if r < 128 - (d + (l 0).val) then flat x b r (r + (d + (l 0).val)) else 0 : ℝ) : EReal) := by
  subst hX
  unfold rowv
  by_cases h : d + (l 0).val + r < 128
  · rw [if_pos h, if_pos (by omega)]
    unfold ent flat
    have e : 129 * r + d + (l 0).val = 128 * r + (r + (d + (l 0).val)) := by omega
    rw [e]
    by_cases hb : b < 8 ∧ 128 * r + (r + (d + (l 0).val)) < 16384
    · rw [dif_pos hb, dif_pos hb]; rfl
    · rw [dif_neg hb, dif_neg hb]; exact ofBits_zero_real
  · rw [if_neg h, if_neg (by omega)]; exact ofBits_zero_real

theorem sumv_real (b d : ℕ) (l : S16.Idx) (n : ℕ) :
    (sumv (F := Ideal) X b d n l : EReal) = ((∑ r ∈ Finset.range n, if r < 128 - (d + (l 0).val) then flat x b r (r + (d + (l 0).val)) else 0 : ℝ) : EReal) := by
  induction n with
  | zero => rw [Finset.range_zero, Finset.sum_empty]; exact ofBits_zero_real
  | succ n ih =>
    rw [Finset.sum_range_succ, EReal.coe_add, ← ih, ← rowv_real x X hX b d n l]; rfl

theorem sqv_real (b d : ℕ) (l : S16.Idx) (n : ℕ) :
    (sqv (F := Ideal) X b d n l : EReal)
      = ((∑ r ∈ Finset.range n, if r < 128 - (d + (l 0).val) then flat x b r (r + (d + (l 0).val)) * flat x b r (r + (d + (l 0).val)) else 0 : ℝ) : EReal) := by
  induction n with
  | zero => rw [Finset.range_zero, Finset.sum_empty]; exact ofBits_zero_real
  | succ n ih =>
    have : (if n < 128 - (d + (l 0).val) then flat x b n (n + (d + (l 0).val)) * flat x b n (n + (d + (l 0).val)) else 0)
        = (if n < 128 - (d + (l 0).val) then flat x b n (n + (d + (l 0).val)) else 0) * (if n < 128 - (d + (l 0).val) then flat x b n (n + (d + (l 0).val)) else 0) := by
      split <;> simp
    rw [Finset.sum_range_succ, EReal.coe_add, ← ih, this, EReal.coe_mul, ← rowv_real x X hX b d n l]; rfl

theorem sumv_all (b d : ℕ) (l : S16.Idx) (n : ℕ) (hn : 128 - d ≤ n) : (sumv (F := Ideal) X b d n l : EReal) = ((S1 (flat x) b (d + (l 0).val) : ℝ) : EReal) := by
  rw [sumv_real x X hX, range_all (fun r => flat x b r (r + (d + (l 0).val))) _ n (by omega)]; rfl
theorem sqv_all (b d : ℕ) (l : S16.Idx) (n : ℕ) (hn : 128 - d ≤ n) : (sqv (F := Ideal) X b d n l : EReal) = ((S2 (flat x) b (d + (l 0).val) : ℝ) : EReal) := by
  rw [sqv_real x X hX, range_all (fun r => flat x b r (r + (d + (l 0).val)) * flat x b r (r + (d + (l 0).val))) _ n (by omega)]; rfl
end

/-- What diagonal `D` of matrix `b` contributes, over the root `rt`: nothing beyond `126`. -/
def part (rt : ℝ → ℝ) (e : Els) (b D : ℕ) : ℝ := if D ≤ 126 then rt (var e b D) * cnt D / 5 else 0

theorem fifth : (Named.named (F := Ideal) (φ := .f32) κ "fifth" 1045220557#32 : EReal) = ((5⁻¹ : ℝ) : EReal) := rfl
theorem count : (Named.named (F := Ideal) (φ := .f32) κ "count" 981600289#32 : EReal) = ((1008⁻¹ : ℝ) : EReal) := rfl

theorem sle (D : ℕ) (hD : D ≤ 128) : IntOp.cmpi .sle (BitVec.ofNat 32 D) 126#32 = BitVec.ofBool (decide (D ≤ 126)) := by
  rw [WordCmp.cmpi_sle_eq]
  have : (BitVec.ofNat 32 D).toInt = (D : ℤ) := by
    rw [BitVec.toInt_eq_toNat_of_lt (by rw [BitVec.toNat_ofNat]; omega), BitVec.toNat_ofNat, Nat.mod_eq_of_lt (by omega)]
  rw [this, show (126#32).toInt = (126 : ℤ) from by decide]
  congr 1
  exact decide_eq_decide.2 (by omega)

theorem cnt_word (D : ℕ) (hD : D ≤ 128) : (FloatOps.sitofp (F := Ideal) .f32 (IntOp.subi 128#32 (BitVec.ofNat 32 D)) : EReal) = ((cnt D : ℝ) : EReal) := by
  have h : (128#32 - BitVec.ofNat 32 D).toNat = 128 - D := by
    simp only [BitVec.toNat_sub, BitVec.toNat_ofNat]; omega
  have : (IntOp.subi 128#32 (BitVec.ofNat 32 D)).toInt = 128 - (D : ℤ) := by
    simp only [IntOp.subi, BitVec.toInt_eq_toNat_cond, h]
    omega
  show (((IntOp.subi 128#32 (BitVec.ofNat 32 D)).toInt : ℝ) : EReal) = _
  rw [this]
  congr 1
  unfold cnt; push_cast; ring

/-- The variance's ideal term is the variance, and the maximum with zero leaves it. -/
theorem var_term (e : Els) (b D : ℕ) (hD : D ≤ 126) :
    max (Ideal.div (((S2 e b D : ℝ) : EReal) - Ideal.div (((S1 e b D : ℝ) : EReal) * ((S1 e b D : ℝ) : EReal)) ((cnt D : ℝ) : EReal)) (((cnt D : ℝ) : EReal) - 1)) 0 = ((var e b D : ℝ) : EReal) := by
  have h := cnt_ge hD
  have h0 : cnt D ≠ 0 := by linarith
  have h1 : cnt D - 1 ≠ 0 := by linarith
  rw [← EReal.coe_mul, div_real _ h0, ← EReal.coe_sub, ← EReal.coe_one, ← EReal.coe_sub, div_real _ h1]
  exact max_eq_left (EReal.coe_nonneg.2 (var_nonneg e b D hD))

theorem half_real : (Scalar.ofBits (F := Ideal) .f32 0x3F000000#32 : EReal) = ((2⁻¹ : ℝ) : EReal) := by
  show Ideal.ofBits .f32 0x3F000000#32 = _
  simp [Ideal.ofBits, Ideal.ieee, -EReal.coe_mul]
  norm_num

theorem one_real : (Scalar.ofBits (F := Ideal) .f32 0x3F800000#32 : EReal) = ((1 : ℝ) : EReal) := by
  show Ideal.ofBits .f32 0x3F800000#32 = _
  simp [Ideal.ofBits, Ideal.ieee, -EReal.coe_mul]
  norm_num

/-- A lane of the Newton steps, at a lane of a real that is no less than zero. -/
theorem newton_at (v : FVec Ideal S16 .f32) (l : S16.Idx) (w : ℝ) (hw : 0 ≤ w) (hv : (v l : EReal) = (w : EReal)) (t : ℕ) :
    (newton v t l : EReal) = ((heron w t : ℝ) : EReal) := by
  induction t with
  | zero =>
    show ((v l : EReal) + (Scalar.ofBits (F := Ideal) .f32 0x3F800000#32 : EReal)) * (Scalar.ofBits (F := Ideal) .f32 0x3F000000#32 : EReal) = _
    rw [hv, half_real, one_real, ← EReal.coe_add, ← EReal.coe_mul]
    rfl
  | succ t ih =>
    show (Scalar.ofBits (F := Ideal) .f32 0x3F000000#32 : EReal) * ((newton v t l : EReal) + Ideal.div (v l : EReal) (newton v t l : EReal)) = _
    rw [hv, ih, half_real, div_real _ (heron_pos hw t).ne', ← EReal.coe_add, ← EReal.coe_mul, mul_comm]
    rfl

theorem lane (e : Els) (b D : ℕ) (hD : D ≤ 128) (v : FVec Ideal S16 .f32) (l : S16.Idx)
    (hv : (v l : EReal) = max (Ideal.div (((S2 e b D : ℝ) : EReal) - Ideal.div (((S1 e b D : ℝ) : EReal) * ((S1 e b D : ℝ) : EReal)) (FloatOps.sitofp (F := Ideal) .f32 (IntOp.subi 128#32 (BitVec.ofNat 32 D)) : EReal))
          ((FloatOps.sitofp (F := Ideal) .f32 (IntOp.subi 128#32 (BitVec.ofNat 32 D)) : EReal) - 1)) 0) :
    Scalar.select (IntOp.cmpi .sle (BitVec.ofNat 32 D) 126#32)
      ((newton v 10 l : EReal) * (FloatOps.sitofp (F := Ideal) .f32 (IntOp.subi 128#32 (BitVec.ofNat 32 D)) : EReal) * (Named.named (F := Ideal) (φ := .f32) κ "fifth" 1045220557#32 : EReal)) 0
      = ((part (fun v => heron v 10) e b D : ℝ) : EReal) := by
  rw [cnt_word D hD] at hv
  rw [sle D hD, WordCmp.select_ofBool, cnt_word D hD, fifth]
  unfold part
  by_cases h : D ≤ 126
  · rw [if_pos h, if_pos (decide_eq_true h), newton_at v l _ (var_nonneg e b D h) (hv.trans (var_term e b D h)), ← EReal.coe_mul, ← EReal.coe_mul, div_eq_mul_inv]
  · rw [if_neg h, if_neg (by rw [decide_eq_true_eq]; exact h)]; rfl

/-! ## One tile -/

theorem d0_le (h : ℕ) (k : Fin 4) (l : S16.Idx) : d0 h k + (l 0).val ≤ 128 := by
  have hl : (l 0).val < 16 := (l 0).isLt
  unfold d0; split <;> fin_cases k <;> simp <;> omega

theorem rows0 (h : ℕ) : 128 - d0 h 0 ≤ 2 * n0 h + 2 * n1 h + 16 := by unfold d0 n0 n1; split <;> decide
theorem rows1 (h : ℕ) : 128 - d0 h 1 ≤ 2 * n0 h + 2 * n1 h := by unfold d0 n0 n1; split <;> decide
theorem rows2 (h : ℕ) : 128 - d0 h 2 ≤ 2 * n0 h := by unfold d0 n0; split <;> decide
theorem rows3 (h : ℕ) : 128 - d0 h 3 ≤ 2 * n0 h := by unfold d0 n0; split <;> decide

section
variable (x : S8x16384.Idx → ℝ) (X : S8x16384.Idx → EReal) (hX : X = fun i => (x i : EReal)) (i : grid0.Coords) (l : S16.Idx)
include hX

theorem lane0 : (var0 (F := Ideal) X i : S16.Idx → EReal) l
    = max (Ideal.div (((S2 (flat x) (bat i) (d0 (half i) 0 + (l 0).val) : ℝ) : EReal) - Ideal.div (((S1 (flat x) (bat i) (d0 (half i) 0 + (l 0).val) : ℝ) : EReal) * ((S1 (flat x) (bat i) (d0 (half i) 0 + (l 0).val) : ℝ) : EReal)) (FloatOps.sitofp (F := Ideal) .f32 (IntOp.subi 128#32 (BitVec.ofNat 32 (d0 (half i) 0 + (l 0).val))) : EReal))
          ((FloatOps.sitofp (F := Ideal) .f32 (IntOp.subi 128#32 (BitVec.ofNat 32 (d0 (half i) 0 + (l 0).val))) : EReal) - 1)) 0 := by
  pointwise [var0, k0_pay56, k0_pay52]
  rw [sumv_all x X hX _ _ l _ (rows0 _), sqv_all x X hX _ _ l _ (rows0 _), dv0]
theorem lane1 : (var1 (F := Ideal) X i : S16.Idx → EReal) l
    = max (Ideal.div (((S2 (flat x) (bat i) (d0 (half i) 1 + (l 0).val) : ℝ) : EReal) - Ideal.div (((S1 (flat x) (bat i) (d0 (half i) 1 + (l 0).val) : ℝ) : EReal) * ((S1 (flat x) (bat i) (d0 (half i) 1 + (l 0).val) : ℝ) : EReal)) (FloatOps.sitofp (F := Ideal) .f32 (IntOp.subi 128#32 (BitVec.ofNat 32 (d0 (half i) 1 + (l 0).val))) : EReal))
          ((FloatOps.sitofp (F := Ideal) .f32 (IntOp.subi 128#32 (BitVec.ofNat 32 (d0 (half i) 1 + (l 0).val))) : EReal) - 1)) 0 := by
  pointwise [var1, k0_pay58, k0_pay57, k0_pay53]
  rw [sumv_all x X hX _ _ l _ (rows1 _), sqv_all x X hX _ _ l _ (rows1 _), dv1]
theorem lane2 : (var2 (F := Ideal) X i : S16.Idx → EReal) l
    = max (Ideal.div (((S2 (flat x) (bat i) (d0 (half i) 2 + (l 0).val) : ℝ) : EReal) - Ideal.div (((S1 (flat x) (bat i) (d0 (half i) 2 + (l 0).val) : ℝ) : EReal) * ((S1 (flat x) (bat i) (d0 (half i) 2 + (l 0).val) : ℝ) : EReal)) (FloatOps.sitofp (F := Ideal) .f32 (IntOp.subi 128#32 (BitVec.ofNat 32 (d0 (half i) 2 + (l 0).val))) : EReal))
          ((FloatOps.sitofp (F := Ideal) .f32 (IntOp.subi 128#32 (BitVec.ofNat 32 (d0 (half i) 2 + (l 0).val))) : EReal) - 1)) 0 := by
  pointwise [var2, k0_pay59, k0_pay54]
  rw [sumv_all x X hX _ _ l _ (rows2 _), sqv_all x X hX _ _ l _ (rows2 _), dv2]
theorem lane3 : (var3 (F := Ideal) X i : S16.Idx → EReal) l
    = max (Ideal.div (((S2 (flat x) (bat i) (d0 (half i) 3 + (l 0).val) : ℝ) : EReal) - Ideal.div (((S1 (flat x) (bat i) (d0 (half i) 3 + (l 0).val) : ℝ) : EReal) * ((S1 (flat x) (bat i) (d0 (half i) 3 + (l 0).val) : ℝ) : EReal)) (FloatOps.sitofp (F := Ideal) .f32 (IntOp.subi 128#32 (BitVec.ofNat 32 (d0 (half i) 3 + (l 0).val))) : EReal))
          ((FloatOps.sitofp (F := Ideal) .f32 (IntOp.subi 128#32 (BitVec.ofNat 32 (d0 (half i) 3 + (l 0).val))) : EReal) - 1)) 0 := by
  pointwise [var3, k0_pay60, k0_pay55]
  rw [sumv_all x X hX _ _ l _ (rows3 _), sqv_all x X hX _ _ l _ (rows3 _), dv3]

theorem tile_value :
    (tileVec (F := Ideal) X i : S16.Idx → EReal) l = (((∑ k : Fin 4, part (fun v => heron v 10) (flat x) (bat i) (d0 (half i) k + (l 0).val)) * 1008⁻¹ : ℝ) : EReal) := by
  pointwise [tileVec, k0_pay70, k0_pay69, k0_pay52, k0_pay53, k0_pay54, k0_pay55, k0_pay21]
  rw [dv0, dv1, dv2, dv3, lane _ _ _ (d0_le _ 0 l) _ l (lane0 x X hX i l), lane _ _ _ (d0_le _ 1 l) _ l (lane1 x X hX i l),
    lane _ _ _ (d0_le _ 2 l) _ l (lane2 x X hX i l), lane _ _ _ (d0_le _ 3 l) _ l (lane3 x X hX i l), count,
    ← EReal.coe_add, ← EReal.coe_add, ← EReal.coe_add, ← EReal.coe_mul, Fin.sum_univ_four]
end

/-! ## All tiles -/

/-- The chunks of the two halves are the diagonals `1 … 128`. -/
theorem chunks (f : ℕ → ℝ) : (∑ h : Fin 2, ∑ l : Fin 16, ∑ k : Fin 4, f (d0 h.val k + l.val)) = ∑ D ∈ Finset.Ico 1 129, f D := by
  have c : ∀ d : ℕ, (∑ l : Fin 16, f (d + l.val)) = ∑ D ∈ Finset.Ico d (d + 16), f D := fun d => by
    rw [Finset.sum_Ico_eq_sum_range, Nat.add_sub_cancel_left, Fin.sum_univ_eq_sum_range (fun l => f (d + l)) 16]
  have j : ∀ p q r : ℕ, p ≤ q → q ≤ r → (∑ D ∈ Finset.Ico p q, f D) + ∑ D ∈ Finset.Ico q r, f D = ∑ D ∈ Finset.Ico p r, f D :=
    fun p q r h₁ h₂ => Finset.sum_Ico_consecutive f h₁ h₂
  have s : ∀ h : Fin 2, (∑ l : Fin 16, ∑ k : Fin 4, f (d0 h.val k + l.val)) = ∑ k : Fin 4, ∑ D ∈ Finset.Ico (d0 h.val k) (d0 h.val k + 16), f D := fun h => by
    rw [Finset.sum_comm]; exact Finset.sum_congr rfl fun k _ => c _
  rw [Fin.sum_univ_two, s, s, Fin.sum_univ_four, Fin.sum_univ_four]
  show (∑ D ∈ Finset.Ico 1 17, f D) + (∑ D ∈ Finset.Ico 17 33, f D) + (∑ D ∈ Finset.Ico 97 113, f D) + (∑ D ∈ Finset.Ico 113 129, f D)
    + ((∑ D ∈ Finset.Ico 33 49, f D) + (∑ D ∈ Finset.Ico 49 65, f D) + (∑ D ∈ Finset.Ico 65 81, f D) + (∑ D ∈ Finset.Ico 81 97, f D)) = _
  rw [← j 1 17 129 (by omega) (by omega), ← j 17 33 129 (by omega) (by omega), ← j 33 49 129 (by omega) (by omega), ← j 49 65 129 (by omega) (by omega),
    ← j 65 81 129 (by omega) (by omega), ← j 81 97 129 (by omega) (by omega), ← j 97 113 129 (by omega) (by omega)]
  ring

/-- The sixteen tiles' lanes are the eight matrices' diagonals. -/
theorem tiles (rt : ℝ → ℝ) (e : Els) :
    (∑ s : Fin 16, ∑ l : Fin 16, (∑ k : Fin 4, part rt e (s.val / 2) (d0 (s.val % 2) k + l.val)) * 1008⁻¹) = Real.value e rt := by
  have h : ∀ g : ℕ → ℕ → ℝ, (∑ s : Fin 16, g (s.val / 2) (s.val % 2)) = ∑ b : Fin 8, ∑ h : Fin 2, g b.val h.val := fun g => by
    rw [← Fintype.sum_prod_type', ← Equiv.sum_comp (finProdFinEquiv (m := 8) (n := 2)) (fun s : Fin 16 => g (s.val / 2) (s.val % 2))]
    refine Finset.sum_congr rfl fun p _ => ?_
    have := p.2.isLt
    show g ((p.2.val + 2 * p.1.val) / 2) ((p.2.val + 2 * p.1.val) % 2) = _
    rw [show (p.2.val + 2 * p.1.val) / 2 = p.1.val by omega, show (p.2.val + 2 * p.1.val) % 2 = p.2.val by omega]
  rw [h fun b h => ∑ l : Fin 16, (∑ k : Fin 4, part rt e b (d0 h k + l.val)) * 1008⁻¹]
  unfold Real.value
  simp only [← Finset.sum_mul]
  rw [div_eq_mul_inv]
  congr 1
  refine Finset.sum_congr rfl fun b _ => ?_
  rw [chunks fun D => part rt e b.val D, Finset.sum_Ico_eq_sum_range, Finset.sum_range_succ, Finset.sum_range_succ]
  rw [show part rt e b.val (1 + 126) = 0 from if_neg (by omega), show part rt e b.val (1 + 127) = 0 from if_neg (by omega), add_zero, add_zero,
    Fin.sum_univ_eq_sum_range (fun o => rt (var e b.val (o + 1)) * cnt (o + 1) / 5) 126]
  refine Finset.sum_congr rfl fun o ho => ?_
  rw [Nat.add_comm 1 o]
  exact if_pos (by have := Finset.mem_range.1 ho; omega)

theorem value (m : (ℓ : Loc nD τ sig) → Buf (Elt Ideal) ℓ) (d : Dev nD) (x : S8x16384.Idx → ℝ) (hX : (X (F := Ideal) m d : S8x16384.Idx → EReal) = fun i => (x i : EReal)) (j : S_.Idx) :
    (R (F := Ideal) m d : S_.Idx → EReal) j = ((Real.value (flat x) (fun v => heron v 10) : ℝ) : EReal) := by
  rw [← tiles]
  simp only [coe_sum]
  have t : ∀ s l : Fin 16, (O (F := Ideal) m d : S16x16.Idx → EReal) (ix2 s l) = (((∑ k : Fin 4, part (fun v => heron v 10) (flat x) (s.val / 2) (d0 (s.val % 2) k + l.val)) * 1008⁻¹ : ℝ) : EReal) :=
    fun s l => tile_value x _ hX _ _
  simp only [← t]
  unfold R
  pointwise
  skip

end Cert.Proof.Diag

end
-- ==== Proof.RefValue.lean ====
/-
  The reference's result over the reals: at an argument of real elements it is the value that the diagonals define.
-/
module

public import proofs.«01_k».proof.Defs
public import proofs.«01_k».proof.Proof.Gen.ReferenceIdeal.Run
public import proofs.«01_k».proof.Proof.Diagonals
public import Idealize.ShloMosaic.Lib.Pointwise
public import Idealize.ShloMosaic.Lib.WordCmp

@[expose] public section

set_option maxRecDepth 16384

noncomputable section

namespace Cert.Proof.Ref

open Cert.ReferenceIdeal Cert.ReferenceIdeal.Gen Cert.ReferenceIdeal.Value
open Idealize.ShloMosaic Cert.Proof.Real

theorem mask (o : Fin 126) (r c : Fin 128) (x y : EReal) :
    Scalar.select (IntOp.cmpi .eq (IntOp.subi (BitVec.ofNat 32 c.val) (BitVec.ofNat 32 r.val)) (IntOp.addi (BitVec.ofNat 32 o.val) 1#32)) x y
      = if c.val = r.val + (o.val + 1) then x else y := by
  have : (BitVec.ofNat 32 c.val - BitVec.ofNat 32 r.val = BitVec.ofNat 32 o.val + 1#32) ↔ c.val = r.val + (o.val + 1) := by
    have := o.isLt; have := r.isLt; have := c.isLt
    constructor
    · intro h
      have h := congrArg BitVec.toNat h
      simp only [BitVec.toNat_sub, BitVec.toNat_add, BitVec.toNat_ofNat] at h
      omega
    · intro h
      apply BitVec.eq_of_toNat_eq
      simp only [BitVec.toNat_sub, BitVec.toNat_add, BitVec.toNat_ofNat]
      omega
  rw [WordCmp.cmpi_eq_eq, WordCmp.select_ofBool]
  simp only [IntOp.subi, IntOp.addi, this, decide_eq_true_eq]

theorem number (o : Fin 126) : (FloatOps.sitofp (F := Ideal) .f32 (IntOp.subi 127#32 (BitVec.ofNat 32 o.val)) : EReal) = ((cnt (o.val + 1) : ℝ) : EReal) := by
  have : (IntOp.subi 127#32 (BitVec.ofNat 32 o.val)).toInt = 127 - (o.val : ℤ) := by
    have := o.isLt
    have h : (127#32 - BitVec.ofNat 32 o.val).toNat = 127 - o.val := by
      simp only [BitVec.toNat_sub, BitVec.toNat_ofNat]; omega
    simp only [IntOp.subi, BitVec.toInt_eq_toNat_cond, h]
    omega
  show (((IntOp.subi 127#32 (BitVec.ofNat 32 o.val)).toInt : ℝ) : EReal) = _
  rw [this]
  congr 1
  unfold cnt; push_cast; ring

theorem ite_coe (p : Prop) [Decidable p] (x y : ℝ) : ((if p then x else y : ℝ) : EReal) = if p then (x : EReal) else (y : EReal) := by split <;> rfl
theorem ite_mul_ite (p : Prop) [Decidable p] (x : ℝ) : (if p then x else 0) * (if p then x else 0) = if p then x * x else 0 := by split <;> simp
theorem five : Ideal.ofBits .f32 1084227584#32 = ((5 : ℝ) : EReal) := by simp [Ideal.ofBits, Ideal.ieee, -EReal.coe_mul]; norm_num
theorem oneTwentySix : Ideal.ofBits .f32 1123811328#32 = ((126 : ℝ) : EReal) := by simp [Ideal.ofBits, Ideal.ieee, -EReal.coe_mul]; norm_num
theorem eight : Ideal.ofBits .f32 1090519040#32 = ((8 : ℝ) : EReal) := by simp [Ideal.ofBits, Ideal.ieee, -EReal.coe_mul]; norm_num

/-- The argument's elements by matrix, row, column. -/
def els (a : S8x128x128.Idx → ℝ) : Els := fun b r c => if h : b < 8 ∧ r < 128 ∧ c < 128 then a (ix3 ⟨b, h.1⟩ ⟨r, h.2.1⟩ ⟨c, h.2.2⟩) else 0

theorem els_at (a : S8x128x128.Idx → ℝ) (b : Fin 8) (r c : Fin 128) : a (ix3 b r c) = els a b.val r.val c.val := by
  unfold els; rw [dif_pos ⟨b.isLt, r.isLt, c.isLt⟩]

/-- The scaled elements' squared distances from their mean, summed over where diagonal `o + 1` has its elements. -/
theorem sum_scaled (f : Els) (b : Fin 8) (o : Fin 126) : (∑ r : Fin 128, ∑ k : Fin 128,
      ((if k.val = r.val + (o.val + 1) then f b.val r.val k.val * cnt (o.val + 1) / 5 - (∑ r : Fin 128, ∑ k : Fin 128, if k.val = r.val + (o.val + 1) then f b.val r.val k.val * cnt (o.val + 1) / 5 else 0) / cnt (o.val + 1) else 0)
        * (if k.val = r.val + (o.val + 1) then f b.val r.val k.val * cnt (o.val + 1) / 5 - (∑ r : Fin 128, ∑ k : Fin 128, if k.val = r.val + (o.val + 1) then f b.val r.val k.val * cnt (o.val + 1) / 5 else 0) / cnt (o.val + 1) else 0)))
      = (cnt (o.val + 1) / 5) * (cnt (o.val + 1) / 5) * (S2 f b.val (o.val + 1) - S1 f b.val (o.val + 1) * S1 f b.val (o.val + 1) / cnt (o.val + 1)) := by
  rw [sum_diagonal (fun r k => f b.val r k * cnt (o.val + 1) / 5) o.val o.isLt]
  simp only [ite_mul_ite, mul_zero]
  rw [sum_diagonal (fun r k => (f b.val r k * cnt (o.val + 1) / 5 - _) * (f b.val r k * cnt (o.val + 1) / 5 - _)) o.val o.isLt]
  simp only [mul_div_assoc]
  have := centred f b.val (o.val + 1) (by omega) (cnt (o.val + 1) / 5)
  simp only [mul_div_assoc] at this
  exact this

/-- The same of the elements themselves. -/
theorem sum_plain (f : Els) (b : Fin 8) (o : Fin 126) : (∑ r : Fin 128, ∑ k : Fin 128,
      ((if k.val = r.val + (o.val + 1) then f b.val r.val k.val - (∑ r : Fin 128, ∑ k : Fin 128, if k.val = r.val + (o.val + 1) then f b.val r.val k.val else 0) / cnt (o.val + 1) else 0)
        * (if k.val = r.val + (o.val + 1) then f b.val r.val k.val - (∑ r : Fin 128, ∑ k : Fin 128, if k.val = r.val + (o.val + 1) then f b.val r.val k.val else 0) / cnt (o.val + 1) else 0)))
      = S2 f b.val (o.val + 1) - S1 f b.val (o.val + 1) * S1 f b.val (o.val + 1) / cnt (o.val + 1) := by
  rw [sum_diagonal (fun r k => f b.val r k) o.val o.isLt]
  simp only [ite_mul_ite, mul_zero]
  rw [sum_diagonal (fun r k => (f b.val r k - _) * (f b.val r k - _)) o.val o.isLt]
  have := centred f b.val (o.val + 1) (by omega) 1
  simp only [mul_one, one_mul] at this
  exact this

theorem root_scaled (f : Els) (b : Fin 8) (o : Fin 126) : Ideal.sqrt (((cnt (o.val + 1) / 5) * (cnt (o.val + 1) / 5) * (S2 f b.val (o.val + 1) - S1 f b.val (o.val + 1) * S1 f b.val (o.val + 1) / cnt (o.val + 1)) / (cnt (o.val + 1) - 1) : ℝ) : EReal)
      = ((√(var f b.val (o.val + 1)) * cnt (o.val + 1) / 5 : ℝ) : EReal) := by
  have hD : o.val + 1 ≤ 126 := by omega
  rw [sqrt_real (div_nonneg (mul_nonneg (mul_self_nonneg _) (centred_nonneg _ _ _ hD)) (by have := cnt_ge hD; linarith)), scaled _ _ _ hD]

theorem root_plain (f : Els) (b : Fin 8) (o : Fin 126) : Ideal.sqrt (((S2 f b.val (o.val + 1) - S1 f b.val (o.val + 1) * S1 f b.val (o.val + 1) / cnt (o.val + 1)) / (cnt (o.val + 1) - 1) : ℝ) : EReal)
      = ((√(var f b.val (o.val + 1)) : ℝ) : EReal) :=
  sqrt_real (var_nonneg f b.val (o.val + 1) (by omega))

theorem value (m : (ℓ : Loc nD τ sig) → Buf (Elt Ideal) ℓ) (c : Dev nD) (a : S8x128x128.Idx → ℝ) (ha : (m (c.tc.loc main_arg0) : S8x128x128.Idx → EReal) = fun i => (a i : EReal)) (j : S_.Idx) :
    (res_main_v39 (F := Ideal) m c : S_.Idx → EReal) j = ((value (els a) Real.sqrt : ℝ) : EReal) := by
  unfold res_main_v39
  pointwise
  rw [ha]
  have z : (id (constant (F := Ideal) S_ FTy.f32 0#32) ix0 : EReal) = ((0 : ℝ) : EReal) := by
    show Ideal.ofBits .f32 0#32 = _; rw [Ideal.ofBits_zero_f32]; rfl
  simp only [mask, number, five, oneTwentySix, eight, els_at, z]
  have h5 : (5 : ℝ) ≠ 0 := by norm_num
  have hn : ∀ o : Fin 126, cnt (o.val + 1) ≠ 0 := fun o => by have := cnt_ge (D := o.val + 1) (by omega); linarith
  have hn1 : ∀ o : Fin 126, cnt (o.val + 1) - 1 ≠ 0 := fun o => by have := cnt_ge (D := o.val + 1) (by omega); linarith
  simp only [← EReal.coe_mul, div_real _ h5, ← ite_coe, ← coe_sum, div_real _ (hn _), ← EReal.coe_sub, ← EReal.coe_one, div_real _ (hn1 _), sum_scaled, root_scaled,
    div_real _ (show (126 : ℝ) ≠ 0 by norm_num), div_real _ (show (8 : ℝ) ≠ 0 by norm_num)]
  congr 1
  unfold Real.value
  rw [← Finset.sum_div, div_div]
  norm_num

end Cert.Proof.Ref

end
-- ==== Proof.Roots.lean ====
/-
  How near ten of Newton's steps come to a root: never below it, and within a bound that the root itself gives.
-/
module

public import proofs.«01_k».proof.Proof.Diagonals

@[expose] public section

noncomputable section

namespace Cert.Proof.Real

/-- What is allowed of the steps at the root `s`. -/
def slack (s : ℝ) : ℝ := if 1 / 64 ≤ s ∧ s ≤ 64 then s * (2 ^ 50)⁻¹ else (1 - s) * (1 - s) / 2048

variable {s : ℝ} (h : 0 ≤ s)
include h

theorem below (t : ℕ) : heron (s * s) (t + 1) - s = (heron (s * s) t - s) ^ 2 / (2 * heron (s * s) t) := by
  have := (heron_pos (mul_self_nonneg s) t).ne'
  rw [heron]; generalize heron (s * s) t = y at *; field_simp; ring

theorem above (t : ℕ) : heron (s * s) (t + 1) + s = (heron (s * s) t + s) ^ 2 / (2 * heron (s * s) t) := by
  have := (heron_pos (mul_self_nonneg s) t).ne'
  rw [heron]; generalize heron (s * s) t = y at *; field_simp; ring

theorem heron_ge (t : ℕ) : s ≤ heron (s * s) t := by
  cases t with
  | zero => rw [heron]; nlinarith [mul_self_nonneg (s - 1)]
  | succ t =>
    have := below h t
    have : 0 ≤ (heron (s * s) t - s) ^ 2 / (2 * heron (s * s) t) := div_nonneg (sq_nonneg _) (by have := heron_pos (mul_self_nonneg s) t; linarith)
    linarith

/-- The error halves at each step. -/
theorem heron_half (t : ℕ) : heron (s * s) t - s ≤ (1 - s) * (1 - s) / 2 / 2 ^ t := by
  induction t with
  | zero => rw [heron, pow_zero, div_one]; linarith
  | succ t ih =>
    have p := heron_pos (mul_self_nonneg s) t
    have g := heron_ge h t
    rw [below h t, pow_succ 2 t, ← div_div ((1 - s) * (1 - s) / 2)]
    refine le_trans ?_ (div_le_div_of_nonneg_right ih zero_le_two)
    rw [div_le_div_iff₀ (by linarith) zero_lt_two]
    nlinarith [mul_nonneg (sub_nonneg.2 g) h]

/-- The error over the sum squares at each step. -/
theorem heron_square (t : ℕ) : heron (s * s) t - s = (((1 - s) / (1 + s)) ^ 2) ^ (2 ^ t) * (heron (s * s) t + s) := by
  induction t with
  | zero =>
    have : 1 + s ≠ 0 := by linarith
    rw [heron, pow_zero, pow_one]; field_simp; ring
  | succ t ih =>
    rw [below h t, above h t, ih, pow_succ 2 t, pow_mul, mul_pow]; ring

theorem heron_near (h₁ : 1 / 64 ≤ s) (h₂ : s ≤ 64) : heron (s * s) 10 - s ≤ s * (2 ^ 50)⁻¹ := by
  have hs : 0 < 1 + s := by linarith
  have q : ((1 - s) / (1 + s)) ^ 2 ≤ (63 / 65) ^ 2 := by
    refine sq_le_sq' ?_ ?_
    · rw [le_div_iff₀ hs]; linarith
    · rw [div_le_iff₀ hs]; linarith
  have q0 := sq_nonneg ((1 - s) / (1 + s))
  have Q : (((1 - s) / (1 + s)) ^ 2) ^ (2 ^ 10) ≤ (2 ^ 52)⁻¹ := by
    have r : ((63 / 65 : ℝ) ^ 2) ^ 32 ≤ 1 / 7 := by norm_num
    rw [show 2 ^ 10 = 32 * 32 by norm_num, pow_mul]
    exact (pow_le_pow_left₀ (pow_nonneg q0 _) ((pow_le_pow_left₀ q0 q _).trans r) _).trans (by norm_num)
  have Q0 := pow_nonneg q0 (2 ^ 10)
  have e := heron_square h 10
  have g := heron_ge h 10
  generalize (((1 - s) / (1 + s)) ^ 2) ^ (2 ^ 10) = p at *
  generalize heron (s * s) 10 = y at *
  have : p ≤ 1 / 2 := Q.trans (by norm_num)
  norm_num at Q ⊢
  nlinarith [mul_nonneg (sub_nonneg.2 this) (sub_nonneg.2 g), mul_nonneg (sub_nonneg.2 Q) h]

theorem heron_slack : heron (s * s) 10 ≤ s + slack s := by
  unfold slack
  split
  · next hs => have := heron_near h hs.1 hs.2; linarith
  · have := heron_half h 10
    rw [div_div] at this
    norm_num at this ⊢
    linarith

end Cert.Proof.Real

end
-- ==== Proof.Near.lean ====
/-
  The postcondition `near` at a result that is the mean of ten Newton steps.
-/
module

public import proofs.«01_k».proof.Defs
public import proofs.«01_k».proof.Proof.Gen.Post_near
public import proofs.«01_k».proof.Proof.RefValue
public import proofs.«01_k».proof.Proof.Roots
public import Idealize.ShloMosaic.Lib.Pointwise
public import Idealize.ShloMosaic.Lib.WordCmp

@[expose] public section

set_option maxRecDepth 16384

noncomputable section

namespace Cert.Proof.Near

open Cert.Post_near Cert.Post_near.Gen
open Idealize.ShloMosaic Cert.Proof.Real

theorem sixtyFourth : Ideal.ofBits .f32 1015021568#32 = ((1 / 64 : ℝ) : EReal) := by simp [Ideal.ofBits, Ideal.ieee, -EReal.coe_mul]; norm_num
theorem sixtyFour : Ideal.ofBits .f32 1115684864#32 = ((64 : ℝ) : EReal) := by simp [Ideal.ofBits, Ideal.ieee, -EReal.coe_mul]; norm_num
theorem tiny : Ideal.ofBits .f32 645922816#32 = (((2 ^ 50)⁻¹ : ℝ) : EReal) := by simp [Ideal.ofBits, Ideal.ieee, -EReal.coe_mul]; norm_num
theorem twentyFortyEight : Ideal.ofBits .f32 1157627904#32 = ((2048 : ℝ) : EReal) := by simp [Ideal.ofBits, Ideal.ieee, -EReal.coe_mul]; norm_num

theorem andi_ofBool (p q : Bool) : IntOp.andi (BitVec.ofBool p) (BitVec.ofBool q) = BitVec.ofBool (p && q) := by
  cases p <;> cases q <;> rfl

theorem slack_at (s : ℝ) :
    Scalar.select (IntOp.andi (BitVec.ofBool (decide (1 / 64 ≤ s))) (BitVec.ofBool (decide (s ≤ 64))))
      ((s * (2 ^ 50)⁻¹ : ℝ) : EReal) (((1 - s) * (1 - s) / 2048 : ℝ) : EReal) = ((slack s : ℝ) : EReal) := by
  rw [andi_ofBool, WordCmp.select_ofBool]
  unfold slack
  simp only [Bool.and_eq_true, decide_eq_true_eq]
  split <;> rfl

/-- The mean of the parts, as the two means are taken. -/
def allowed (e : Els) : ℝ := (∑ b : Fin 8, (∑ o : Fin 126, slack √(var e b.val (o.val + 1)) * cnt (o.val + 1) / 5) / 126) / 8

theorem fn_near (A : S8x128x128.Idx → EReal) (B : S_.Idx → EReal) (a : S8x128x128.Idx → ℝ) (hA : A = fun i => (a i : EReal)) (v : ℝ) (j : S_.Idx) (hB : B j = (v : EReal))
    (h₁ : value (Ref.els a) Real.sqrt ≤ v) (h₂ : v ≤ value (Ref.els a) Real.sqrt + allowed (Ref.els a)) :
    (fn (F := Ideal) A B : S_.Idx → BitVec 1) j = 1#1 := by
  pointwise [fn, fn_part1, fn_part2, fn_part3, fn_part4, fn_part5, fn_where, fn_where_0, fn_where_1]
  rw [hA, hB]
  have z : (id (constant (F := Ideal) S_ FTy.f32 0#32) ix0 : EReal) = ((0 : ℝ) : EReal) := by
    show Ideal.ofBits .f32 0#32 = _; rw [Ideal.ofBits_zero_f32]; rfl
  simp only [Ref.mask, Ref.number, Ref.five, Ref.oneTwentySix, Ref.eight, Ref.els_at, z, sixtyFourth, sixtyFour, tiny, twentyFortyEight]
  have h5 : (5 : ℝ) ≠ 0 := by norm_num
  have hn : ∀ o : Fin 126, cnt (o.val + 1) ≠ 0 := fun o => by have := cnt_ge (D := o.val + 1) (by omega); linarith
  have hn1 : ∀ o : Fin 126, cnt (o.val + 1) - 1 ≠ 0 := fun o => by have := cnt_ge (D := o.val + 1) (by omega); linarith
  simp only [← EReal.coe_mul, div_real _ h5, ← Ref.ite_coe, ← coe_sum, div_real _ (hn _), ← EReal.coe_sub, ← EReal.coe_one, div_real _ (hn1 _), Ref.sum_scaled, Ref.sum_plain,
    Ref.root_scaled, Ref.root_plain,
    div_real _ (show (126 : ℝ) ≠ 0 by norm_num), div_real _ (show (8 : ℝ) ≠ 0 by norm_num), div_real _ (show (2048 : ℝ) ≠ 0 by norm_num), slack_at, ← EReal.coe_add, EReal.coe_le_coe_iff]
  have mean : (∑ b : Fin 8, (∑ o : Fin 126, √(var (Ref.els a) b.val (o.val + 1)) * cnt (o.val + 1) / 5) / 126) / 8 = value (Ref.els a) Real.sqrt := by
    unfold value
    rw [← Finset.sum_div, div_div]
    norm_num
  unfold allowed at h₂
  rw [mean, andi_ofBool, decide_eq_true h₁, decide_eq_true h₂]
  rfl

/-- Ten Newton steps for each root are within what is allowed. -/
theorem newton_near (e : Els) : value e Real.sqrt ≤ value e (fun v => heron v 10) ∧ value e (fun v => heron v 10) ≤ value e Real.sqrt + allowed e := by
  have root : ∀ (b : Fin 8) (o : Fin 126), √(var e b.val (o.val + 1)) * √(var e b.val (o.val + 1)) = var e b.val (o.val + 1) := fun b o =>
    Real.mul_self_sqrt (var_nonneg e b.val (o.val + 1) (by omega))
  have pos : ∀ o : Fin 126, 0 ≤ cnt (o.val + 1) := fun o => by have := cnt_ge (D := o.val + 1) (by omega); linarith
  have low : ∀ (b : Fin 8) (o : Fin 126), √(var e b.val (o.val + 1)) ≤ heron (var e b.val (o.val + 1)) 10 := fun b o => by
    have := heron_ge (Real.sqrt_nonneg (var e b.val (o.val + 1))) 10
    rwa [root] at this
  have high : ∀ (b : Fin 8) (o : Fin 126), heron (var e b.val (o.val + 1)) 10 ≤ √(var e b.val (o.val + 1)) + slack √(var e b.val (o.val + 1)) := fun b o => by
    have := heron_slack (Real.sqrt_nonneg (var e b.val (o.val + 1)))
    rwa [root] at this
  have both : allowed e = (∑ b : Fin 8, ∑ o : Fin 126, slack √(var e b.val (o.val + 1)) * cnt (o.val + 1) / 5) / 1008 := by
    unfold allowed
    rw [← Finset.sum_div, div_div]
    norm_num
  rw [both]
  unfold value
  rw [← add_div, ← Finset.sum_add_distrib]
  constructor
  · refine div_le_div_of_nonneg_right (Finset.sum_le_sum fun b _ => Finset.sum_le_sum fun o _ => ?_) (by norm_num)
    exact div_le_div_of_nonneg_right (mul_le_mul_of_nonneg_right (low b o) (pos o)) (by norm_num)
  · refine div_le_div_of_nonneg_right (Finset.sum_le_sum fun b _ => ?_) (by norm_num)
    rw [← Finset.sum_add_distrib]
    refine Finset.sum_le_sum fun o _ => ?_
    rw [← add_div, ← add_mul]
    exact div_le_div_of_nonneg_right (mul_le_mul_of_nonneg_right (high b o) (pos o)) (by norm_num)

end Cert.Proof.Near

end
-- ==== Proof.Finite.lean ====
/-
  What the precondition says of the argument.
-/
module

public import proofs.«01_k».proof.Proof.Gen.Pre_finite
public import Idealize.ShloMosaic.Lib.ReduceAll
public import Idealize.ShloMosaic.Lib.WordCmp
public import Idealize.ShloMosaic.PureOps.Ideal

@[expose] public section

noncomputable section

namespace Cert.Proof

open Idealize.ShloMosaic

/-- Each element is a real number. -/
theorem real_of_finite (A : Cert.Pre_finite.S8x128x128.Idx → EReal) (h : Cert.Pre_finite.fn (F := Ideal) A = fun _ => 1#1) (i : Cert.Pre_finite.S8x128x128.Idx) :
    A i = ((A i).toReal : EReal) := by
  have e := Host.reduce_andi_all _ _ _ _ (fun a => a.elim0) (congrFun h fun a => a.elim0) i
  have inf : Ideal.ofBits .f32 0x7F800000#32 = (⊤ : EReal) := by simp [Ideal.ofBits, Ideal.ieee]
  have e : BitVec.ofBool (decide ((max (A i) (-(A i)) : EReal) < Ideal.ofBits .f32 0x7F800000#32)) = 1#1 := e
  rw [inf, WordCmp.ofBool_decide_eq_one_iff] at e
  have h1 := lt_of_le_of_lt (le_max_left _ _) e
  have h2 := lt_of_le_of_lt (le_max_right _ _) e
  refine (EReal.coe_toReal h1.ne fun hb => ?_).symm
  rw [hb, EReal.neg_bot] at h2
  exact lt_irrefl _ h2

end Cert.Proof

end
-- ==== Proof.Equation.lean ====
/-
  The kernel's result is near the reference's, over the reals, at every finite argument.
-/
module

public import proofs.«01_k».proof.Proof.KernelValue
public import proofs.«01_k».proof.Proof.Near
public import proofs.«01_k».proof.Proof.Finite

@[expose] public section

set_option maxRecDepth 16384

noncomputable section

namespace Cert.Proof.Diag

open Idealize.ShloMosaic Idealize.SL.Sem Cert.Proof.Real

/-- The array that the call reads, element by element. -/
theorem flat_eq (m : (ℓ : Loc Cert.KernelIdeal.nD Cert.KernelIdeal.τ Cert.KernelIdeal.sig) → Buf (Elt Ideal) ℓ) (c : Dev Cert.KernelIdeal.nD) (b r k : ℕ) (hb : b < 8) (hr : r < 128) (hk : k < 128) :
    flat (fun i => (X (F := Ideal) m c i : EReal).toReal) b r k = Ref.els (fun i => (m (aLoc c) i : EReal).toReal) b r k := by
  unfold flat Ref.els
  rw [dif_pos ⟨hb, by omega⟩, dif_pos ⟨hb, hr, hk⟩]
  refine congrArg EReal.toReal ?_
  unfold X
  refine shapeCast_apply _ _ _ _ ?_
  refine (Shape.rowMajor_val_three (d := ![8, 128, 128]) _).trans (Eq.trans ?_ (Shape.rowMajor_val_two (d := ![8, 16384]) _).symm)
  show (b * 128 + r) * 128 + k = b * 16384 + (128 * r + k)
  omega

theorem holds : Cert.holds_KernelIdeal_near_pre_finite := by
  intro m g hfin
  refine (θ_run Cert.KernelIdeal.defs _ _).mono (fun r h c => ⟨(h.1 c).2, ?_⟩) (run_main (F := Ideal) m g)
  have hA := real_of_finite _ (hfin c)
  have hX : (X (F := Ideal) m c : Cert.KernelIdeal.S8x16384.Idx → EReal) = fun i => ((X (F := Ideal) m c i : EReal).toReal : EReal) := funext fun i => hA _
  funext j
  have n := Near.newton_near (Ref.els fun i => (m (aLoc c) i : EReal).toReal)
  refine Near.fn_near _ _ (fun i => (m (aLoc c) i : EReal).toReal) (funext hA) _ j ?_ n.1 n.2
  rw [(h.1 c).1]
  exact (value m c _ hX j).trans (congrArg (fun v : ℝ => (v : EReal)) (value_congr _ _ (fun b r k hb hr hk => flat_eq m c b r k hb hr hk) _))

end Cert.Proof.Diag

end
-- ==== Proof.ExactValue.lean ====
/-
  The kernel's result over the reals: at an argument of real elements it is the value that the diagonals define.
-/
module

public import proofs.«01_k».proof.Proof.ExactRun
public import proofs.«01_k».proof.Proof.Diagonals
public import Idealize.ShloMosaic.Lib.Pointwise
public import Idealize.ShloMosaic.Lib.WordCmp

@[expose] public section

set_option maxRecDepth 16384

noncomputable section

namespace Cert.Proof.Exact

open Cert.ExactRootIdeal Cert.ExactRootIdeal.Gen
open Idealize.ShloMosaic Cert.Proof.Real

/-! ## One lane's diagonal -/

/-- The flat array's elements by matrix, row, column. -/
def flat (x : S8x16384.Idx → ℝ) : Els := fun b r c => if h : b < 8 ∧ 128 * r + c < 16384 then x (fun | 0 => ⟨b, h.1⟩ | 1 => ⟨128 * r + c, h.2⟩) else 0

theorem ofBits_zero_real : (Scalar.ofBits (F := Ideal) .f32 0x00000000#32 : EReal) = ((0 : ℝ) : EReal) := by
  show Ideal.ofBits .f32 0#32 = _; rw [Ideal.ofBits_zero_f32]; rfl

theorem range_all (f : ℕ → ℝ) (k n : ℕ) (h : k ≤ n) : (∑ r ∈ Finset.range n, if r < k then f r else 0) = ∑ r ∈ Finset.range k, f r := by
  rw [← Finset.sum_filter]
  congr 1
  ext r; simp only [Finset.mem_filter, Finset.mem_range]; omega

section
variable (x : S8x16384.Idx → ℝ) (X : S8x16384.Idx → EReal) (hX : X = fun i => (x i : EReal))
include hX

theorem rowv_real (b d r : ℕ) (l : S16.Idx) :
    (rowv (F := Ideal) X b d r l : EReal) = ((if r < 128 - (d + (l 0).val) then flat x b r (r + (d + (l 0).val)) else 0 : ℝ) : EReal) := by
  subst hX
  unfold rowv
  by_cases h : d + (l 0).val + r < 128
  · rw [if_pos h, if_pos (by omega)]
    unfold ent flat
    have e : 129 * r + d + (l 0).val = 128 * r + (r + (d + (l 0).val)) := by omega
    rw [e]
    by_cases hb : b < 8 ∧ 128 * r + (r + (d + (l 0).val)) < 16384
    · rw [dif_pos hb, dif_pos hb]; rfl
    · rw [dif_neg hb, dif_neg hb]; exact ofBits_zero_real
  · rw [if_neg h, if_neg (by omega)]; exact ofBits_zero_real

theorem sumv_real (b d : ℕ) (l : S16.Idx) (n : ℕ) :
    (sumv (F := Ideal) X b d n l : EReal) = ((∑ r ∈ Finset.range n, if r < 128 - (d + (l 0).val) then flat x b r (r + (d + (l 0).val)) else 0 : ℝ) : EReal) := by
  induction n with
  | zero => rw [Finset.range_zero, Finset.sum_empty]; exact ofBits_zero_real
  | succ n ih =>
    rw [Finset.sum_range_succ, EReal.coe_add, ← ih, ← rowv_real x X hX b d n l]; rfl

theorem sqv_real (b d : ℕ) (l : S16.Idx) (n : ℕ) :
    (sqv (F := Ideal) X b d n l : EReal)
      = ((∑ r ∈ Finset.range n, if r < 128 - (d + (l 0).val) then flat x b r (r + (d + (l 0).val)) * flat x b r (r + (d + (l 0).val)) else 0 : ℝ) : EReal) := by
  induction n with
  | zero => rw [Finset.range_zero, Finset.sum_empty]; exact ofBits_zero_real
  | succ n ih =>
    have : (if n < 128 - (d + (l 0).val) then flat x b n (n + (d + (l 0).val)) * flat x b n (n + (d + (l 0).val)) else 0)
        = (if n < 128 - (d + (l 0).val) then flat x b n (n + (d + (l 0).val)) else 0) * (if n < 128 - (d + (l 0).val) then flat x b n (n + (d + (l 0).val)) else 0) := by
      split <;> simp
    rw [Finset.sum_range_succ, EReal.coe_add, ← ih, this, EReal.coe_mul, ← rowv_real x X hX b d n l]; rfl

theorem sumv_all (b d : ℕ) (l : S16.Idx) (n : ℕ) (hn : 128 - d ≤ n) : (sumv (F := Ideal) X b d n l : EReal) = ((S1 (flat x) b (d + (l 0).val) : ℝ) : EReal) := by
  rw [sumv_real x X hX, range_all (fun r => flat x b r (r + (d + (l 0).val))) _ n (by omega)]; rfl
theorem sqv_all (b d : ℕ) (l : S16.Idx) (n : ℕ) (hn : 128 - d ≤ n) : (sqv (F := Ideal) X b d n l : EReal) = ((S2 (flat x) b (d + (l 0).val) : ℝ) : EReal) := by
  rw [sqv_real x X hX, range_all (fun r => flat x b r (r + (d + (l 0).val)) * flat x b r (r + (d + (l 0).val))) _ n (by omega)]; rfl
end

/-- What diagonal `D` of matrix `b` contributes, over the root `rt`: nothing beyond `126`. -/
def part (rt : ℝ → ℝ) (e : Els) (b D : ℕ) : ℝ := if D ≤ 126 then rt (var e b D) * cnt D / 5 else 0

theorem fifth : (Named.named (F := Ideal) (φ := .f32) κ "fifth" 1045220557#32 : EReal) = ((5⁻¹ : ℝ) : EReal) := rfl
theorem count : (Named.named (F := Ideal) (φ := .f32) κ "count" 981600289#32 : EReal) = ((1008⁻¹ : ℝ) : EReal) := rfl

theorem sle (D : ℕ) (hD : D ≤ 128) : IntOp.cmpi .sle (BitVec.ofNat 32 D) 126#32 = BitVec.ofBool (decide (D ≤ 126)) := by
  rw [WordCmp.cmpi_sle_eq]
  have : (BitVec.ofNat 32 D).toInt = (D : ℤ) := by
    rw [BitVec.toInt_eq_toNat_of_lt (by rw [BitVec.toNat_ofNat]; omega), BitVec.toNat_ofNat, Nat.mod_eq_of_lt (by omega)]
  rw [this, show (126#32).toInt = (126 : ℤ) from by decide]
  congr 1
  exact decide_eq_decide.2 (by omega)

theorem cnt_word (D : ℕ) (hD : D ≤ 128) : (FloatOps.sitofp (F := Ideal) .f32 (IntOp.subi 128#32 (BitVec.ofNat 32 D)) : EReal) = ((cnt D : ℝ) : EReal) := by
  have h : (128#32 - BitVec.ofNat 32 D).toNat = 128 - D := by
    simp only [BitVec.toNat_sub, BitVec.toNat_ofNat]; omega
  have : (IntOp.subi 128#32 (BitVec.ofNat 32 D)).toInt = 128 - (D : ℤ) := by
    simp only [IntOp.subi, BitVec.toInt_eq_toNat_cond, h]
    omega
  show (((IntOp.subi 128#32 (BitVec.ofNat 32 D)).toInt : ℝ) : EReal) = _
  rw [this]
  congr 1
  unfold cnt; push_cast; ring

/-- The variance's ideal term is the variance, and the maximum with zero leaves it. -/
theorem var_term (e : Els) (b D : ℕ) (hD : D ≤ 126) :
    max (Ideal.div (((S2 e b D : ℝ) : EReal) - Ideal.div (((S1 e b D : ℝ) : EReal) * ((S1 e b D : ℝ) : EReal)) ((cnt D : ℝ) : EReal)) (((cnt D : ℝ) : EReal) - 1)) 0 = ((var e b D : ℝ) : EReal) := by
  have h := cnt_ge hD
  have h0 : cnt D ≠ 0 := by linarith
  have h1 : cnt D - 1 ≠ 0 := by linarith
  rw [← EReal.coe_mul, div_real _ h0, ← EReal.coe_sub, ← EReal.coe_one, ← EReal.coe_sub, div_real _ h1]
  exact max_eq_left (EReal.coe_nonneg.2 (var_nonneg e b D hD))

theorem lane (e : Els) (b D : ℕ) (hD : D ≤ 128) :
    Scalar.select (IntOp.cmpi .sle (BitVec.ofNat 32 D) 126#32)
      (Ideal.sqrt (max (Ideal.div (((S2 e b D : ℝ) : EReal) - Ideal.div (((S1 e b D : ℝ) : EReal) * ((S1 e b D : ℝ) : EReal)) (FloatOps.sitofp (F := Ideal) .f32 (IntOp.subi 128#32 (BitVec.ofNat 32 D)) : EReal))
          ((FloatOps.sitofp (F := Ideal) .f32 (IntOp.subi 128#32 (BitVec.ofNat 32 D)) : EReal) - 1)) 0)
        * (FloatOps.sitofp (F := Ideal) .f32 (IntOp.subi 128#32 (BitVec.ofNat 32 D)) : EReal) * (Named.named (F := Ideal) (φ := .f32) κ "fifth" 1045220557#32 : EReal)) 0
      = ((part Real.sqrt e b D : ℝ) : EReal) := by
  rw [sle D hD, WordCmp.select_ofBool, cnt_word D hD, fifth]
  unfold part
  by_cases h : D ≤ 126
  · rw [if_pos h, if_pos (decide_eq_true h), var_term e b D h, sqrt_real (var_nonneg e b D h), ← EReal.coe_mul, ← EReal.coe_mul, div_eq_mul_inv]
  · rw [if_neg h, if_neg (by rw [decide_eq_true_eq]; exact h)]; rfl

/-! ## One tile -/

theorem d0_le (h : ℕ) (k : Fin 4) (l : S16.Idx) : d0 h k + (l 0).val ≤ 128 := by
  have hl : (l 0).val < 16 := (l 0).isLt
  unfold d0; split <;> fin_cases k <;> simp <;> omega

theorem rows0 (h : ℕ) : 128 - d0 h 0 ≤ 2 * n0 h + 2 * n1 h + 16 := by unfold d0 n0 n1; split <;> decide
theorem rows1 (h : ℕ) : 128 - d0 h 1 ≤ 2 * n0 h + 2 * n1 h := by unfold d0 n0 n1; split <;> decide
theorem rows2 (h : ℕ) : 128 - d0 h 2 ≤ 2 * n0 h := by unfold d0 n0; split <;> decide
theorem rows3 (h : ℕ) : 128 - d0 h 3 ≤ 2 * n0 h := by unfold d0 n0; split <;> decide

theorem tile_value (x : S8x16384.Idx → ℝ) (X : S8x16384.Idx → EReal) (hX : X = fun i => (x i : EReal)) (i : grid0.Coords) (l : S16.Idx) :
    (tileVec (F := Ideal) X i : S16.Idx → EReal) l = (((∑ k : Fin 4, part Real.sqrt (flat x) (bat i) (d0 (half i) k + (l 0).val)) * 1008⁻¹ : ℝ) : EReal) := by
  pointwise [tileVec, k0_pay1, k0_pay56, k0_pay59, k0_pay60, k0_pay53, k0_pay54, k0_pay57, k0_pay58, k0_pay61, k0_pay62, k0_pay55, k0_pay22]
  rw [sumv_all x X hX _ _ l _ (rows0 _), sumv_all x X hX _ _ l _ (rows1 _), sumv_all x X hX _ _ l _ (rows2 _), sumv_all x X hX _ _ l _ (rows3 _),
    sqv_all x X hX _ _ l _ (rows0 _), sqv_all x X hX _ _ l _ (rows1 _), sqv_all x X hX _ _ l _ (rows2 _), sqv_all x X hX _ _ l _ (rows3 _),
    dv0, dv1, dv2, dv3, lane _ _ _ (d0_le _ 0 l), lane _ _ _ (d0_le _ 1 l), lane _ _ _ (d0_le _ 2 l), lane _ _ _ (d0_le _ 3 l), count,
    ← EReal.coe_add, ← EReal.coe_add, ← EReal.coe_add, ← EReal.coe_mul, Fin.sum_univ_four]

/-! ## All tiles -/

/-- The chunks of the two halves are the diagonals `1 … 128`. -/
theorem chunks (f : ℕ → ℝ) : (∑ h : Fin 2, ∑ l : Fin 16, ∑ k : Fin 4, f (d0 h.val k + l.val)) = ∑ D ∈ Finset.Ico 1 129, f D := by
  have c : ∀ d : ℕ, (∑ l : Fin 16, f (d + l.val)) = ∑ D ∈ Finset.Ico d (d + 16), f D := fun d => by
    rw [Finset.sum_Ico_eq_sum_range, Nat.add_sub_cancel_left, Fin.sum_univ_eq_sum_range (fun l => f (d + l)) 16]
  have j : ∀ p q r : ℕ, p ≤ q → q ≤ r → (∑ D ∈ Finset.Ico p q, f D) + ∑ D ∈ Finset.Ico q r, f D = ∑ D ∈ Finset.Ico p r, f D :=
    fun p q r h₁ h₂ => Finset.sum_Ico_consecutive f h₁ h₂
  have s : ∀ h : Fin 2, (∑ l : Fin 16, ∑ k : Fin 4, f (d0 h.val k + l.val)) = ∑ k : Fin 4, ∑ D ∈ Finset.Ico (d0 h.val k) (d0 h.val k + 16), f D := fun h => by
    rw [Finset.sum_comm]; exact Finset.sum_congr rfl fun k _ => c _
  rw [Fin.sum_univ_two, s, s, Fin.sum_univ_four, Fin.sum_univ_four]
  show (∑ D ∈ Finset.Ico 1 17, f D) + (∑ D ∈ Finset.Ico 17 33, f D) + (∑ D ∈ Finset.Ico 97 113, f D) + (∑ D ∈ Finset.Ico 113 129, f D)
    + ((∑ D ∈ Finset.Ico 33 49, f D) + (∑ D ∈ Finset.Ico 49 65, f D) + (∑ D ∈ Finset.Ico 65 81, f D) + (∑ D ∈ Finset.Ico 81 97, f D)) = _
  rw [← j 1 17 129 (by omega) (by omega), ← j 17 33 129 (by omega) (by omega), ← j 33 49 129 (by omega) (by omega), ← j 49 65 129 (by omega) (by omega),
    ← j 65 81 129 (by omega) (by omega), ← j 81 97 129 (by omega) (by omega), ← j 97 113 129 (by omega) (by omega)]
  ring

/-- The sixteen tiles' lanes are the eight matrices' diagonals. -/
theorem tiles (rt : ℝ → ℝ) (e : Els) :
    (∑ s : Fin 16, ∑ l : Fin 16, (∑ k : Fin 4, part rt e (s.val / 2) (d0 (s.val % 2) k + l.val)) * 1008⁻¹) = Real.value e rt := by
  have h : ∀ g : ℕ → ℕ → ℝ, (∑ s : Fin 16, g (s.val / 2) (s.val % 2)) = ∑ b : Fin 8, ∑ h : Fin 2, g b.val h.val := fun g => by
    rw [← Fintype.sum_prod_type', ← Equiv.sum_comp (finProdFinEquiv (m := 8) (n := 2)) (fun s : Fin 16 => g (s.val / 2) (s.val % 2))]
    refine Finset.sum_congr rfl fun p _ => ?_
    have := p.2.isLt
    show g ((p.2.val + 2 * p.1.val) / 2) ((p.2.val + 2 * p.1.val) % 2) = _
    rw [show (p.2.val + 2 * p.1.val) / 2 = p.1.val by omega, show (p.2.val + 2 * p.1.val) % 2 = p.2.val by omega]
  rw [h fun b h => ∑ l : Fin 16, (∑ k : Fin 4, part rt e b (d0 h k + l.val)) * 1008⁻¹]
  unfold Real.value
  simp only [← Finset.sum_mul]
  rw [div_eq_mul_inv]
  congr 1
  refine Finset.sum_congr rfl fun b _ => ?_
  rw [chunks fun D => part rt e b.val D, Finset.sum_Ico_eq_sum_range, Finset.sum_range_succ, Finset.sum_range_succ]
  rw [show part rt e b.val (1 + 126) = 0 from if_neg (by omega), show part rt e b.val (1 + 127) = 0 from if_neg (by omega), add_zero, add_zero,
    Fin.sum_univ_eq_sum_range (fun o => rt (var e b.val (o + 1)) * cnt (o + 1) / 5) 126]
  refine Finset.sum_congr rfl fun o ho => ?_
  rw [Nat.add_comm 1 o]
  exact if_pos (by have := Finset.mem_range.1 ho; omega)

theorem value (m : (ℓ : Loc nD τ sig) → Buf (Elt Ideal) ℓ) (d : Dev nD) (x : S8x16384.Idx → ℝ) (hX : (X (F := Ideal) m d : S8x16384.Idx → EReal) = fun i => (x i : EReal)) (j : S_.Idx) :
    (R (F := Ideal) m d : S_.Idx → EReal) j = ((Real.value (flat x) Real.sqrt : ℝ) : EReal) := by
  rw [← tiles]
  simp only [coe_sum]
  have t : ∀ s l : Fin 16, (O (F := Ideal) m d : S16x16.Idx → EReal) (ix2 s l) = (((∑ k : Fin 4, part Real.sqrt (flat x) (s.val / 2) (d0 (s.val % 2) k + l.val)) * 1008⁻¹ : ℝ) : EReal) :=
    fun s l => tile_value x _ hX _ _
  simp only [← t]
  unfold R
  pointwise
  skip

end Cert.Proof.Exact

end
-- ==== Proof.ExactEquation.lean ====
/-
  The result of the kernel with exact roots is the reference's, over the reals, at every finite argument.
-/
module

public import proofs.«01_k».proof.Proof.ExactValue
public import proofs.«01_k».proof.Proof.RefValue
public import proofs.«01_k».proof.Proof.Finite

@[expose] public section

set_option maxRecDepth 16384

noncomputable section

namespace Cert.Proof.Exact

open Idealize.ShloMosaic Idealize.SL.Sem Cert.Proof.Real

/-- The array that the call reads, element by element. -/
theorem flat_eq (m : (ℓ : Loc Cert.ExactRootIdeal.nD Cert.ExactRootIdeal.τ Cert.ExactRootIdeal.sig) → Buf (Elt Ideal) ℓ) (c : Dev Cert.ExactRootIdeal.nD) (b r k : ℕ) (hb : b < 8) (hr : r < 128) (hk : k < 128) :
    flat (fun i => (X (F := Ideal) m c i : EReal).toReal) b r k = Ref.els (fun i => (m (aLoc c) i : EReal).toReal) b r k := by
  unfold flat Ref.els
  rw [dif_pos ⟨hb, by omega⟩, dif_pos ⟨hb, hr, hk⟩]
  refine congrArg EReal.toReal ?_
  unfold X
  refine shapeCast_apply _ _ _ _ ?_
  refine (Shape.rowMajor_val_three (d := ![8, 128, 128]) _).trans (Eq.trans ?_ (Shape.rowMajor_val_two (d := ![8, 16384]) _).symm)
  show (b * 128 + r) * 128 + k = b * 16384 + (128 * r + k)
  omega

theorem algebraic : Cert.algebraic_ExactRootIdeal_ReferenceIdeal_pre_finite := by
  intro m g m' g' hfin harg
  refine ⟨fun c => R (F := Ideal) m c, ?_, ?_⟩
  · exact (θ_run Cert.ExactRootIdeal.defs _ _).mono (fun _ h c => h.1 c) (run_main (F := Ideal) m g)
  · refine (θ_run Cert.ReferenceIdeal.defs _ _).mono (fun r h c => ⟨(h c).1.trans ?_, (h c).2⟩) (Cert.ReferenceIdeal.Value.run (F := Ideal) m' g')
    have hA := real_of_finite _ (hfin c)
    have ha : (m' ((c.tc : Thread Cert.ReferenceIdeal.nD Cert.ReferenceIdeal.τ).loc Cert.ReferenceIdeal.main_arg0) : Cert.ReferenceIdeal.S8x128x128.Idx → EReal) = fun i => ((m (aLoc c) i : EReal).toReal : EReal) := by
      rw [harg c]; exact funext hA
    have hX : (X (F := Ideal) m c : Cert.ExactRootIdeal.S8x16384.Idx → EReal) = fun i => ((X (F := Ideal) m c i : EReal).toReal : EReal) := funext fun i => hA _
    funext j
    exact (Ref.value m' c _ ha j).trans ((congrArg (fun v : ℝ => (v : EReal)) (value_congr _ _ (fun b r k hb hr hk => (flat_eq m c b r k hb hr hk).symm) _)).trans (value m c _ hX j).symm)

end Cert.Proof.Exact

end
-- ==== Proof.lean ====
/-
  The claims, assembled.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_finite
public import proofs.«01_k».proof.Proof.Gen.Post_near
public import proofs.«01_k».proof.Proof.Gen.ExactRoot
public import proofs.«01_k».proof.Proof.Gen.ExactRootIdeal
public import proofs.«01_k».proof.Proof.Gen.ExactRootIdeal.Skeleton
public import proofs.«01_k».proof.Proof.Frames
public import proofs.«01_k».proof.Proof.Equation
public import proofs.«01_k».proof.Proof.ExactEquation

@[expose] public section

noncomputable section

namespace Cert.Proof

theorem claim : Cert.Claim :=
  ⟨Cert.Kernel.Gen.facts, Cert.KernelIdeal.Gen.facts, Cert.ExactRoot.Gen.facts, Cert.ExactRootIdeal.Gen.facts, Cert.ReferenceIdeal.Gen.facts,
    Cert.Pre_finite.Gen.facts, Cert.Post_near.Gen.facts,
    Diag.frame_bits, Diag.frame_ideal, Diag.frame_ideal_finite, Diag.exact_frame_bits, Diag.exact_frame_ideal, Diag.exact_frame_ideal_finite,
    Diag.frame_reference, Diag.frame_reference_finite, Diag.preserves, Diag.exact_preserves, Exact.algebraic, Diag.holds⟩

end Cert.Proof

end
